-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_of_knots [hPre_clear_of_knots : Cert.Pre_clear_of_knots.Facts] (m : (ℓ : Loc Cert.KernelIdeal.nD Cert.KernelIdeal.τ Cert.KernelIdeal.sig) → Buf (Elt Ideal) ℓ) : Prop :=
  ∀ c : Dev Cert.KernelIdeal.nD,
    (Cert.Pre_clear_of_knots.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_of_knots [hPre_clear_of_knots : Cert.Pre_clear_of_knots.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_of_knots.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_clear_of_knots [hKernelIdeal : Cert.KernelIdeal.Facts] [hPre_clear_of_knots : Cert.Pre_clear_of_knots.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_of_knots m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_clear_of_knots [hReferenceIdeal : Cert.ReferenceIdeal.Facts] [hPre_clear_of_knots : Cert.Pre_clear_of_knots.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_of_knots m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "k1" .f32 0x3D042108#32 ((1 / 31 : ℝ) : EReal)
  ∧ IdealRules.named_const.Statement Cert.KernelIdeal.κ "inv_dt" .f32 0x41F7FFFB#32 ((34902897112121344 / 1125900255871593 : ℝ) : EReal)
  ∧ IdealRules.named_const.Statement Cert.KernelIdeal.κ "k2" .f32 0x3D842108#32 ((2 / 31 : ℝ) : EReal)
  ∧ IdealRules.named_const.Statement Cert.KernelIdeal.κ "k3" .f32 0x3DC6318C#32 ((3 / 31 : ℝ) : EReal)
  ∧ IdealRules.named_const.Statement Cert.KernelIdeal.κ "k4" .f32 0x3E042108#32 ((4 / 31 : ℝ) : EReal)
  ∧ IdealRules.named_const.Statement Cert.KernelIdeal.κ "k5" .f32 0x3E25294A#32 ((5 / 31 : ℝ) : EReal)
  ∧ IdealRules.named_const.Statement Cert.KernelIdeal.κ "k6" .f32 0x3E46318C#32 ((6 / 31 : ℝ) : EReal)
  ∧ IdealRules.named_const.Statement Cert.KernelIdeal.κ "k7" .f32 0x3E6739CE#32 ((7 / 31 : ℝ) : EReal)
  ∧ IdealRules.named_const.Statement Cert.KernelIdeal.κ "k8" .f32 0x3E842108#32 ((8 / 31 : ℝ) : EReal)
  ∧ IdealRules.named_const.Statement Cert.KernelIdeal.κ "k9" .f32 0x3E94A529#32 ((9 / 31 : ℝ) : EReal)
  ∧ IdealRules.named_const.Statement Cert.KernelIdeal.κ "k10" .f32 0x3EA5294A#32 ((10 / 31 : ℝ) : EReal)
  ∧ IdealRules.named_const.Statement Cert.KernelIdeal.κ "k11" .f32 0x3EB5AD6B#32 ((11 / 31 : ℝ) : EReal)
  ∧ IdealRules.named_const.Statement Cert.KernelIdeal.κ "k12" .f32 0x3EC6318C#32 ((12 / 31 : ℝ) : EReal)
  ∧ IdealRules.named_const.Statement Cert.KernelIdeal.κ "k13" .f32 0x3ED6B5AD#32 ((13 / 31 : ℝ) : EReal)
  ∧ IdealRules.named_const.Statement Cert.KernelIdeal.κ "k14" .f32 0x3EE739CE#32 ((14 / 31 : ℝ) : EReal)
  ∧ IdealRules.named_const.Statement Cert.KernelIdeal.κ "k15" .f32 0x3EF7BDEF#32 ((15 / 31 : ℝ) : EReal)
  ∧ IdealRules.named_const.Statement Cert.KernelIdeal.κ "k16" .f32 0x3F042108#32 ((16 / 31 : ℝ) : EReal)
  ∧ IdealRules.named_const.Statement Cert.KernelIdeal.κ "k17" .f32 0x3F0C6319#32 ((17 / 31 : ℝ) : EReal)
  ∧ IdealRules.named_const.Statement Cert.KernelIdeal.κ "k18" .f32 0x3F14A529#32 ((18 / 31 : ℝ) : EReal)
  ∧ IdealRules.named_const.Statement Cert.KernelIdeal.κ "k19" .f32 0x3F1CE73A#32 ((19 / 31 : ℝ) : EReal)
  ∧ IdealRules.named_const.Statement Cert.KernelIdeal.κ "k20" .f32 0x3F25294A#32 ((20 / 31 : ℝ) : EReal)
  ∧ IdealRules.named_const.Statement Cert.KernelIdeal.κ "k21" .f32 0x3F2D6B5B#32 ((21 / 31 : ℝ) : EReal)
  ∧ IdealRules.named_const.Statement Cert.KernelIdeal.κ "k22" .f32 0x3F35AD6B#32 ((22 / 31 : ℝ) : EReal)
  ∧ IdealRules.named_const.Statement Cert.KernelIdeal.κ "k23" .f32 0x3F3DEF7C#32 ((23 / 31 : ℝ) : EReal)
  ∧ IdealRules.named_const.Statement Cert.KernelIdeal.κ "k24" .f32 0x3F46318C#32 ((24 / 31 : ℝ) : EReal)
  ∧ IdealRules.named_const.Statement Cert.KernelIdeal.κ "k25" .f32 0x3F4E739D#32 ((25 / 31 : ℝ) : EReal)
  ∧ IdealRules.named_const.Statement Cert.KernelIdeal.κ "k26" .f32 0x3F56B5AD#32 ((26 / 31 : ℝ) : EReal)
  ∧ IdealRules.named_const.Statement Cert.KernelIdeal.κ "k27" .f32 0x3F5EF7BE#32 ((27 / 31 : ℝ) : EReal)
  ∧ IdealRules.named_const.Statement Cert.KernelIdeal.κ "k28" .f32 0x3F6739CE#32 ((28 / 31 : ℝ) : EReal)
  ∧ IdealRules.named_const.Statement Cert.KernelIdeal.κ "k29" .f32 0x3F6F7BDF#32 ((29 / 31 : ℝ) : EReal)
  ∧ IdealRules.named_const.Statement Cert.KernelIdeal.κ "k30" .f32 0x3F77BDEF#32 ((30 / 31 : ℝ) : EReal)

def algebraic_KernelIdeal_ReferenceIdeal_pre_clear_of_knots [hKernelIdeal : Cert.KernelIdeal.Facts] [hReferenceIdeal : Cert.ReferenceIdeal.Facts] [hPre_clear_of_knots : Cert.Pre_clear_of_knots.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_of_knots m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_clear_of_knots : Cert.Pre_clear_of_knots.Facts),
    quiescent_Kernel (hKernel := hKernel)
    ∧ quiescent_KernelIdeal (hKernelIdeal := hKernelIdeal)
    ∧ quiescent_KernelIdeal_pre_clear_of_knots (hKernelIdeal := hKernelIdeal) (hPre_clear_of_knots := hPre_clear_of_knots)
    ∧ quiescent_ReferenceIdeal (hReferenceIdeal := hReferenceIdeal)
    ∧ quiescent_ReferenceIdeal_pre_clear_of_knots (hReferenceIdeal := hReferenceIdeal) (hPre_clear_of_knots := hPre_clear_of_knots)
    ∧ preserves_Kernel_KernelIdeal
    ∧ algebraic_KernelIdeal_ReferenceIdeal_pre_clear_of_knots (hKernelIdeal := hKernelIdeal) (hReferenceIdeal := hReferenceIdeal) (hPre_clear_of_knots := hPre_clear_of_knots)
-- ==== Pre_clear_of_knots.lean ====
abbrev S1x1024x64 : Shape := ⟨3, ![1, 1024, 64]⟩
abbrev S32x4 : Shape := ⟨2, ![32, 4]⟩
abbrev S32 : Shape := ⟨1, ![32]⟩
abbrev S1x32 : Shape := ⟨2, ![1, 32]⟩
abbrev S1 : Shape := ⟨1, ![1]⟩
abbrev S32x2 : Shape := ⟨2, ![32, 2]⟩
abbrev S_ : Shape := ⟨0, ![]⟩
abbrev S31 : Shape := ⟨1, ![31]⟩
abbrev S32x32 : Shape := ⟨2, ![32, 32]⟩
abbrev S32x32x1 : Shape := ⟨3, ![32, 32, 1]⟩
abbrev S32x32x2 : Shape := ⟨3, ![32, 32, 2]⟩
abbrev S1024x2 : Shape := ⟨2, ![1024, 2]⟩
abbrev S1024x1x2 : Shape := ⟨3, ![1024, 1, 2]⟩
abbrev S1x1024x2 : Shape := ⟨3, ![1, 1024, 2]⟩
abbrev S1024x1024x2 : Shape := ⟨3, ![1024, 1024, 2]⟩
abbrev S1024x1024 : Shape := ⟨2, ![1024, 1024]⟩
abbrev S2x32 : Shape := ⟨2, ![2, 32]⟩
abbrev S1024x32 : Shape := ⟨2, ![1024, 32]⟩
abbrev S32x1 : Shape := ⟨2, ![32, 1]⟩
abbrev S1024x1 : Shape := ⟨2, ![1024, 1]⟩
abbrev S1x1 : Shape := ⟨2, ![1, 1]⟩

class Facts : Prop where
  bcast_S_S32 : S_.BroadcastsInDim S32 (![] : Fin 0 → Fin S32.rank)
  reducesTo_S32_S_d0 : S32.ReducesTo [0] S_
  h_S_ : 0 < S_.numel
  bcast_S_S31 : S_.BroadcastsInDim S31 (![] : Fin 0 → Fin S31.rank)
  shapeCasts_S_S1 : S_.ShapeCasts S1
  bcast_S1_S31_0 : S1.BroadcastsInDim S31 (![0] : Fin 1 → Fin S31.rank)
  bcast_S_S1 : S_.BroadcastsInDim S1 (![] : Fin 0 → Fin S1.rank)
  concatenates_S31_S1_S32_d0 : Shape.Concatenates [S31, S1] S32 0
  bcast_S32_S32x32_0 : S32.BroadcastsInDim S32x32 (![0] : Fin 1 → Fin S32x32.rank)
  bcast_S32_S32x32_1 : S32.BroadcastsInDim S32x32 (![1] : Fin 1 → Fin S32x32.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  shapeCasts_S32x32x2_S1024x2 : S32x32x2.ShapeCasts S1024x2
  bcast_S1024x2_S1024x1x2_0_2 : S1024x2.BroadcastsInDim S1024x1x2 (![0, 2] : Fin 2 → Fin S1024x1x2.rank)
  bcast_S1024x2_S1x1024x2_1_2 : S1024x2.BroadcastsInDim S1x1024x2 (![1, 2] : Fin 2 → Fin S1x1024x2.rank)
  bcast_S1024x1x2_S1024x1024x2_0_1_2 : S1024x1x2.BroadcastsInDim S1024x1024x2 (![0, 1, 2] : Fin 3 → Fin S1024x1024x2.rank)
  bcast_S1x1024x2_S1024x1024x2_0_1_2 : S1x1024x2.BroadcastsInDim S1024x1024x2 (![0, 1, 2] : Fin 3 → Fin S1024x1024x2.rank)
  reducesTo_S1024x1024x2_S1024x1024_d2 : S1024x1024x2.ReducesTo [2] S1024x1024
  transposes_S32x2_S2x32_1_0 : S32x2.Transposes [1, 0] S2x32
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  transposes_S1x32_S32x1_1_0 : S1x32.Transposes [1, 0] S32x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  dot_S1024x2_S2x32_S1024x32_1_0_0_1_n_n_wf : DotDims.WF S1024x2 S2x32 S1024x32 [1] [0] [0] [1] [] []
  dot_S1024x32_S32x1_S1024x1_1_0_0_1_n_n_wf : DotDims.WF S1024x32 S32x1 S1024x1 [1] [0] [0] [1] [] []

variable [Facts]

def dot_S1024x2_S2x32_S1024x32_1_0_0_1_n_n : DotDims S1024x2 S2x32 S1024x32 where
  lhsContracting := [1]
  rhsContracting := [0]
  lhsNonContracting := [0]
  rhsNonContracting := [1]
  lhsBatch := []
  rhsBatch := []
  wf := dot_S1024x2_S2x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def fn_linspace {F : FTy → Type} [FloatOps F] (arg0 : FVec F S_ .f32) (arg1 : FVec F S_ .f32) : FVec F S32 .f32 :=
  let v0 : FVec F S_ .f32 := id arg0
  let v1 : FVec F S_ .f32 := id arg1
  let v2 : FVec F S_ .f32 := subf v1 v0
  let cst : FVec F S_ .f32 := constant S_ .f32 0x41F80000#32
  let v3 : FVec F S_ .f32 := Host.divf v2 cst
  let v4 : FVec F S31 .f32 := sitofp .f32 (iotaInDim S31 32 0)
  let cst_0 : FVec F S_ .f32 := constant S_ .f32 0x41F80000#32
  let v5 : FVec F S31 .f32 := broadcastInDim S31 ![] bcast_S_S31 cst_0
  let v6 : FVec F S31 .f32 := Host.divf v4 v5
  let v7 : FVec F S1 .f32 := shapeCast S1 v0 shapeCasts_S_S1
  let cst_1 : FVec F S_ .f32 := constant S_ .f32 0x3F800000#32
  let v8 : FVec F S31 .f32 := broadcastInDim S31 ![] bcast_S_S31 cst_1
  let v9 : FVec F S31 .f32 := subf v8 v6
  let v10 : FVec F S31 .f32 := broadcastInDim S31 ![0] bcast_S1_S31_0 v7
  let v11 : FVec F S31 .f32 := mulf v10 v9
  let v12 : FVec F S1 .f32 := shapeCast S1 v1 shapeCasts_S_S1
  let v13 : FVec F S31 .f32 := broadcastInDim S31 ![0] bcast_S1_S31_0 v12
  let v14 : FVec F S31 .f32 := mulf v13 v6
  let v15 : FVec F S31 .f32 := addf v11 v14
  let v16 : FVec F S1 .f32 := broadcastInDim S1 ![] bcast_S_S1 v1
  let v17 : FVec F S32 .f32 := (fun a b => concatenate S32 0 [⟨S31, a⟩, ⟨S1, b⟩] concatenates_S31_S1_S32_d0) v15 v16
  v17

def fn_norm {F : FTy → Type} [FloatOps F] (arg0 : FVec F S1024x1024x2 .f32) : FVec F S1024x1024 .f32 :=
  let v0 : FVec F S1024x1024x2 .f32 := mulf arg0 arg0
  let cst : FVec F S_ .f32 := constant S_ .f32 0x00000000#32
  let v1 : FVec F S1024x1024 .f32 := (fun x v => Host.reduceAdd x v reducesTo_S1024x1024x2_S1024x1024_d2 h_S_) v0 cst
  let v2 : FVec F S1024x1024 .f32 := Host.sqrt v1
  v2

def fn_softplus {F : FTy → Type} [FloatOps F] (arg0 : FVec F S1024x1 .f32) : FVec F S1024x1 .f32 :=
  let cst : FVec F S_ .f32 := constant S_ .f32 0x00000000#32
  let v0 : FVec F S1024x1 .f32 := broadcastInDim S1024x1 ![] bcast_S_S1024x1 cst
  let v1 : FVec F S1024x1 .f32 := maximumf arg0 v0
  let v2 : FVec F S1024x1 .f32 := broadcastInDim S1024x1 ![] bcast_S_S1024x1 cst
  let v3 : FVec F S1024x1 .f32 := subf arg0 v2
  let v4 : IVec S1024x1 1 := cmpf .une v3 v3
  let v5 : FVec F S1024x1 .f32 := broadcastInDim S1024x1 ![] bcast_S_S1024x1 cst
  let v6 : FVec F S1024x1 .f32 := addf arg0 v5
  let v7 : FVec F S1024x1 .f32 := Host.absf v3
  let v8 : FVec F S1024x1 .f32 := Host.negf v7
  let v9 : FVec F S1024x1 .f32 := Host.exp v8
  let v10 : FVec F S1024x1 .f32 := Host.log1p v9
  let v11 : FVec F S1024x1 .f32 := addf v1 v10
  let v12 : FVec F S1024x1 .f32 := select v4 v6 v11
  v12

def fn_clip {F : FTy → Type} [FloatOps F] (arg0 : FVec F S1024x1024 .f32) (arg1 : FVec F S_ .f32) (arg2 : FVec F S_ .f32) : FVec F S1024x1024 .f32 :=
  let v0 : FVec F S_ .f32 := id arg1
  let v1 : FVec F S1024x1024 .f32 := broadcastInDim S1024x1024 ![] bcast_S_S1024x1024 v0
  let v2 : FVec F S1024x1024 .f32 := maximumf v1 arg0
  let v3 : FVec F S_ .f32 := id arg2
  let v4 : FVec F S1024x1024 .f32 := broadcastInDim S1024x1024 ![] bcast_S_S1024x1024 v3
  let v5 : FVec F S1024x1024 .f32 := minimumf v4 v2
  v5

def fn_part2 {F : FTy → Type} [FloatOps F] (main_v3 : IVec S_ 1) (main_v16 : FVec F S1024x1024 .f32) (main_v34 : FVec F S1024x1024 .f32) (main_v37 : FVec F S1024x1024 .f32) (main_cst_7 : FVec F S_ .f32) : IVec S1024x1024 1 :=
  let main_v38 : FVec F S1024x1024 .f32 := broadcastInDim S1024x1024 ![] bcast_S_S1024x1024 main_cst_7
  let main_v39 : FVec F S1024x1024 .f32 := Host.divf main_v37 main_v38
  let main_v40 : FVec F S1024x1024 .f32 := subf main_v34 main_v39
  let main_cst_8 : FVec F S_ .f32 := constant S_ .f32 0x3E4CCCCD#32
  let main_v41 : FVec F S1024x1024 .f32 := broadcastInDim S1024x1024 ![] bcast_S_S1024x1024 main_cst_8
  let main_v42 : IVec S1024x1024 1 := cmpf .ogt main_v16 main_v41
  let main_cst_9 : FVec F S_ .f32 := constant S_ .f32 0x00000000#32
  let main_v43 : FVec F S1024x1024 .f32 := broadcastInDim S1024x1024 ![] bcast_S_S1024x1024 main_cst_9
  let main_v44 : IVec S1024x1024 1 := cmpf .oeq main_v37 main_v43
  let main_v45 : IVec S1024x1024 1 := ori main_v42 main_v44
  let main_cst_10 : FVec F S_ .f32 := constant S_ .f32 0x41F80000#32
  let main_v46 : FVec F S1024x1024 .f32 := broadcastInDim S1024x1024 ![] bcast_S_S1024x1024 main_cst_10
  let main_v47 : IVec S1024x1024 1 := cmpf .oeq main_v37 main_v46
  let main_v48 : IVec S1024x1024 1 := ori main_v45 main_v47
  let main_cst_11 : FVec F S_ .f32 := constant S_ .f32 0x322BCC77#32
  let main_v49 : FVec F S1024x1024 .f32 := broadcastInDim S1024x1024 ![] bcast_S_S1024x1024 main_cst_11
  let main_v50 : IVec S1024x1024 1 := cmpf .oge main_v40 main_v49
  let main_v51 : IVec S1024x1024 1 := ori main_v48 main_v50
  let main_v52 : IVec S1024x1024 1 := broadcastInDim S1024x1024 ![] bcast_S_S1024x1024 main_v3
  let main_v53 : IVec S1024x1024 1 := andi main_v52 main_v51
  main_v53

def fn_part1 {F : FTy → Type} [FloatOps F] (main_arg7 : FVec F S1x32 .f32) (main_arg8 : FVec F S1 .f32) (main_v3 : IVec S_ 1) (main_v16 : FVec F S1024x1024 .f32) (main_v18 : FVec F S1024x32 .f32) (main_v19 : FVec F S1x32 .f32) : IVec S1024x1024 1 :=
  let main_v20 : FVec F S1024x32 .f32 := broadcastInDim S1024x32 ![0, 1] bcast_S1x32_S1024x32_0_1 main_v19
  let main_v21 : FVec F S1024x32 .f32 := addf main_v18 main_v20
  let main_cst_2 : FVec F S_ .f32 := constant S_ .f32 0x00000000#32
  let main_v22 : FVec F S1024x32 .f32 := broadcastInDim S1024x32 ![] bcast_S_S1024x32 main_cst_2
  let main_v23 : FVec F S1024x32 .f32 := maximumf main_v21 main_v22
  let main_v24 : FVec F S32x1 .f32 := (transpose S32x1 [1, 0] · transposes_S1x32_S32x1_1_0) main_arg7
  let main_v25 : FVec F S1024x1 .f32 := (fun l r => Host.dotGeneral dot_S1024x32_S32x1_S1024x1_1_0_0_1_n_n none l r) main_v23 main_v24
  let main_v26 : FVec F S1x1 .f32 := broadcastInDim S1x1 ![1] bcast_S1_S1x1_1 main_arg8
  let main_v27 : FVec F S1024x1 .f32 := broadcastInDim S1024x1 ![0, 1] bcast_S1x1_S1024x1_0_1 main_v26
  let main_v28 : FVec F S1024x1 .f32 := addf main_v25 main_v27
  let main_v29 : FVec F S1024x1 .f32 := fn_softplus (F := F) main_v28
  let main_cst_3 : FVec F S_ .f32 := constant S_ .f32 0x358637BD#32
  let main_v30 : FVec F S1024x1 .f32 := broadcastInDim S1024x1 ![] bcast_S_S1024x1 main_cst_3
  let main_v31 : FVec F S1024x1 .f32 := addf main_v29 main_v30
  let main_v32 : FVec F S1024x1024 .f32 := broadcastInDim S1024x1024 ![0, 1] bcast_S1024x1_S1024x1024_0_1 main_v31
  let main_v33 : FVec F S1024x1024 .f32 := Host.divf main_v16 main_v32
  let main_cst_4 : FVec F S_ .f32 := constant S_ .f32 0x00000000#32
  let main_cst_5 : FVec F S_ .f32 := constant S_ .f32 0x3F800000#32
  let main_v34 : FVec F S1024x1024 .f32 := fn_clip (F := F) main_v33 main_cst_4 main_cst_5
  let main_cst_6 : FVec F S_ .f32 := constant S_ .f32 0x41F80000#32
  let main_v35 : FVec F S1024x1024 .f32 := broadcastInDim S1024x1024 ![] bcast_S_S1024x1024 main_cst_6
  let main_v36 : FVec F S1024x1024 .f32 := mulf main_v34 main_v35
  let main_v37 : FVec F S1024x1024 .f32 := Host.floor main_v36
  let main_cst_7 : FVec F S_ .f32 := constant S_ .f32 0x41F80000#32
  fn_part2 (F := F) main_v3 main_v16 main_v34 main_v37 main_cst_7

def fn {F : FTy → Type} [FloatOps F] (main_arg0 : FVec F S1x1024x64 .f32) (main_arg1 : FVec F S32x4 .f32) (main_arg2 : FVec F S32 .f32) (main_arg3 : FVec F S1x32 .f32) (main_arg4 : FVec F S1 .f32) (main_arg5 : FVec F S32x2 .f32) (main_arg6 : FVec F S32 .f32) (main_arg7 : FVec F S1x32 .f32) (main_arg8 : FVec F S1 .f32) (main_arg9 : FVec F S32 .f32) : IVec S1024x1024 1 :=
  let main_v0 : FVec F S32 .f32 := Host.absf main_arg9
  let main_cst : FVec F S_ .f32 := constant S_ .f32 0x7F800000#32
  let main_v1 : FVec F S32 .f32 := broadcastInDim S32 ![] bcast_S_S32 main_cst
  let main_v2 : IVec S32 1 := cmpf .olt main_v0 main_v1
  let main_c : IVec S_ 1 := constantI S_ 1 1#1
  let main_v3 : IVec S_ 1 := (fun x v => Host.reduce IntOp.andi x v reducesTo_S32_S_d0 h_S_) main_v2 main_c
  let main_cst_0 : FVec F S_ .f32 := constant S_ .f32 0x00000000#32
  let main_cst_1 : FVec F S_ .f32 := constant S_ .f32 0x3F800000#32
  let main_v4 : FVec F S32 .f32 := fn_linspace (F := F) main_cst_0 main_cst_1
  let main_v5 : FVec F S32x32 .f32 := broadcastInDim S32x32 ![0] bcast_S32_S32x32_0 main_v4
  let main_v6 : FVec F S32x32 .f32 := broadcastInDim S32x32 ![1] bcast_S32_S32x32_1 main_v4
  let main_v7 : FVec F S32x32x1 .f32 := broadcastInDim S32x32x1 ![0, 1] bcast_S32x32_S32x32x1_0_1 main_v5
  let main_v8 : FVec F S32x32x1 .f32 := broadcastInDim S32x32x1 ![0, 1] bcast_S32x32_S32x32x1_0_1 main_v6
  let main_v9 : FVec F S32x32x2 .f32 := (fun a b => concatenate S32x32x2 2 [⟨S32x32x1, a⟩, ⟨S32x32x1, b⟩] concatenates_S32x32x1_S32x32x1_S32x32x2_d2) main_v7 main_v8
  let main_v10 : FVec F S1024x2 .f32 := shapeCast S1024x2 main_v9 shapeCasts_S32x32x2_S1024x2
  let main_v11 : FVec F S1024x1x2 .f32 := broadcastInDim S1024x1x2 ![0, 2] bcast_S1024x2_S1024x1x2_0_2 main_v10
  let main_v12 : FVec F S1x1024x2 .f32 := broadcastInDim S1x1024x2 ![1, 2] bcast_S1024x2_S1x1024x2_1_2 main_v10
  let main_v13 : FVec F S1024x1024x2 .f32 := broadcastInDim S1024x1024x2 ![0, 1, 2] bcast_S1024x1x2_S1024x1024x2_0_1_2 main_v11
  let main_v14 : FVec F S1024x1024x2 .f32 := broadcastInDim S1024x1024x2 ![0, 1, 2] bcast_S1x1024x2_S1024x1024x2_0_1_2 main_v12
  let main_v15 : FVec F S1024x1024x2 .f32 := subf main_v13 main_v14
  let main_v16 : FVec F S1024x1024 .f32 := fn_norm (F := F) main_v15
  let main_v17 : FVec F S2x32 .f32 := (transpose S2x32 [1, 0] · transposes_S32x2_S2x32_1_0) main_arg5
  let main_v18 : FVec F S1024x32 .f32 := (fun l r => Host.dotGeneral dot_S1024x2_S2x32_S1024x32_1_0_0_1_n_n none l r) main_v10 main_v17
  let main_v19 : FVec F S1x32 .f32 := broadcastInDim S1x32 ![1] bcast_S32_S1x32_1 main_arg6
  fn_part1 (F := F) main_arg7 main_arg8 main_v3 main_v16 main_v18 main_v19
-- ==== Kernel.lean ====
abbrev S1x1024x64 : Shape := ⟨3, ![1, 1024, 64]⟩
abbrev S32x4 : Shape := ⟨2, ![32, 4]⟩
abbrev S32 : Shape := ⟨1, ![32]⟩
abbrev S1x32 : Shape := ⟨2, ![1, 32]⟩
abbrev S1 : Shape := ⟨1, ![1]⟩
abbrev S32x2 : Shape := ⟨2, ![32, 2]⟩
abbrev S1024x64 : Shape := ⟨2, ![1024, 64]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S2x32 : Shape := ⟨2, ![2, 32]⟩
abbrev S1024x32 : Shape := ⟨2, ![1024, 32]⟩
abbrev S32x1 : Shape := ⟨2, ![32, 1]⟩
abbrev S1x1 : Shape := ⟨2, ![1, 1]⟩
abbrev S128x1 : Shape := ⟨2, ![128, 1]⟩
abbrev S128x64 : Shape := ⟨2, ![128, 64]⟩
abbrev S128x128 : Shape := ⟨2, ![128, 128]⟩
abbrev S128 : Shape := ⟨1, ![128]⟩

abbrev nBuf : Space → Nat
  | .hbm => 57
  | .vmem => 5
  | .smem => 5
  | _ => 0

abbrev bufTy : (tb : Table) → Fin (tcTables nBuf tb) → BufTy
  | .hbm, ⟨0, _⟩ => ⟨S1x1024x64, .f32⟩
  | .hbm, ⟨1, _⟩ => ⟨S32x4, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S32x2, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S32, .f32⟩
  | .hbm, ⟨10, _⟩ => ⟨S1024x64, .f32⟩
  | .hbm, ⟨11, _⟩ => ⟨S1024, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x1, .f32⟩
  | .hbm, ⟨29, _⟩ => ⟨S1024x2, .f32⟩
  | .hbm, ⟨30, _⟩ => ⟨S1024x2, .bf16⟩
  | .hbm, ⟨31, _⟩ => ⟨S2x32, .f32⟩
  | .hbm, ⟨32, _⟩ => ⟨S2x32, .bf16⟩
  | .hbm, ⟨33, _⟩ => ⟨S1024x32, .f32⟩
  | .hbm, ⟨34, _⟩ => ⟨S1x32, .f32⟩
  | .hbm, ⟨35, _⟩ => ⟨S1024x32, .f32⟩
  | .hbm, ⟨36, _⟩ => ⟨S1024x32, .f32⟩
  | .hbm, ⟨37, _⟩ => ⟨S_, .f32⟩
  | .hbm, ⟨38, _⟩ => ⟨S1024x32, .f32⟩
  | .hbm, ⟨39, _⟩ => ⟨S1024x32, .f32⟩
  | .hbm, ⟨40, _⟩ => ⟨S1024x32, .bf16⟩
  | .hbm, ⟨41, _⟩ => ⟨S32x1, .f32⟩
  | .hbm, ⟨42, _⟩ => ⟨S32x1, .bf16⟩
  | .hbm, ⟨43, _⟩ => ⟨S1024x1, .f32⟩
  | .hbm, ⟨44, _⟩ => ⟨S1x1, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x1, .f32⟩
  | .hbm, ⟨52, _⟩ => ⟨S1024x1, .f32⟩
  | .hbm, ⟨53, _⟩ => ⟨S1024x1, .f32⟩
  | .hbm, ⟨54, _⟩ => ⟨S1024x1, .f32⟩
  | .hbm, ⟨55, _⟩ => ⟨S32, .f32⟩
  | .hbm, ⟨56, _⟩ => ⟨S1024x64, .f32⟩
  | .local _ .vmem, ⟨0, _⟩ => ⟨S1024x64, .f32⟩
  | .local _ .vmem, ⟨1, _⟩ => ⟨S128x1, .f32⟩
  | .local _ .vmem, ⟨2, _⟩ => ⟨S128x1, .f32⟩
  | .local _ .vmem, ⟨3, _⟩ => ⟨S128x64, .f32⟩
  | .local _ .vmem, ⟨4, _⟩ => ⟨S128x64, .f32⟩
  | .local _ .smem, ⟨0, _⟩ => ⟨S32x4, .f32⟩
  | .local _ .smem, ⟨1, _⟩ => ⟨S32, .f32⟩
  | .local _ .smem, ⟨2, _⟩ => ⟨S32, .f32⟩
  | .local _ .smem, ⟨3, _⟩ => ⟨S1, .f32⟩
  | .local _ .smem, ⟨4, _⟩ => ⟨S32, .f32⟩
  | _, _ => ⟨S1x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_cst_0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_off1 (i : grid0.Coords) (c0_i32_8 : BitVec 32) : Fin 2 → Nat :=
  let c3_i32 : BitVec 32 := 3#32
  let c0_i32 : BitVec 32 := 0#32
  let arg0 : BitVec 32 := BitVec.ofNat 32 (i 0).val
  let c2_i32 : BitVec 32 := 2#32
  let v24 : BitVec 32 := Scalar.subi arg0 c2_i32
  let v25 : BitVec 32 := Scalar.maxsi c0_i32 v24
  let v26 : BitVec 32 := Scalar.minsi c3_i32 v25
  let c128_i32_5 : BitVec 32 := 128#32
  let v27 : BitVec 32 := Scalar.muli v26 c128_i32_5
  let v30 : BitVec 32 := Scalar.addi v27 c0_i32_8
  let v1272 : Index := Scalar.indexCast v30
  let c0_527 : Index := 0#32
  ![v1272.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_dt" => some ((34902897112121344 / 1125900255871593 : ℝ) : EReal)
  | "k1" => some ((1 / 31 : ℝ) : EReal)
  | "k10" => some ((10 / 31 : ℝ) : EReal)
  | "k11" => some ((11 / 31 : ℝ) : EReal)
  | "k12" => some ((12 / 31 : ℝ) : EReal)
  | "k13" => some ((13 / 31 : ℝ) : EReal)
  | "k14" => some ((14 / 31 : ℝ) : EReal)
  | "k15" => some ((15 / 31 : ℝ) : EReal)
  | "k16" => some ((16 / 31 : ℝ) : EReal)
  | "k17" => some ((17 / 31 : ℝ) : EReal)
  | "k18" => some ((18 / 31 : ℝ) : EReal)
  | "k19" => some ((19 / 31 : ℝ) : EReal)
  | "k2" => some ((2 / 31 : ℝ) : EReal)
  | "k20" => some ((20 / 31 : ℝ) : EReal)
  | "k21" => some ((21 / 31 : ℝ) : EReal)
  | "k22" => some ((22 / 31 : ℝ) : EReal)
  | "k23" => some ((23 / 31 : ℝ) : EReal)
  | "k24" => some ((24 / 31 : ℝ) : EReal)
  | "k25" => some ((25 / 31 : ℝ) : EReal)
  | "k26" => some ((26 / 31 : ℝ) : EReal)
  | "k27" => some ((27 / 31 : ℝ) : EReal)
  | "k28" => some ((28 / 31 : ℝ) : EReal)
  | "k29" => some ((29 / 31 : ℝ) : EReal)
  | "k3" => some ((3 / 31 : ℝ) : EReal)
  | "k30" => some ((30 / 31 : ℝ) : EReal)
  | "k4" => some ((4 / 31 : ℝ) : EReal)
  | "k5" => some ((5 / 31 : ℝ) : EReal)
  | "k6" => some ((6 / 31 : ℝ) : EReal)
  | "k7" => some ((7 / 31 : ℝ) : EReal)
  | "k8" => some ((8 / 31 : ℝ) : EReal)
  | "k9" => some ((9 / 31 : ℝ) : EReal)
  | _ => none
-- ==== ReferenceIdeal.lean ====
abbrev S1x1024x64 : Shape := ⟨3, ![1, 1024, 64]⟩
abbrev S32x4 : Shape := ⟨2, ![32, 4]⟩
abbrev S32 : Shape := ⟨1, ![32]⟩
abbrev S1x32 : Shape := ⟨2, ![1, 32]⟩
abbrev S1 : Shape := ⟨1, ![1]⟩
abbrev S32x2 : Shape := ⟨2, ![32, 2]⟩
abbrev S_ : Shape := ⟨0, ![]⟩
abbrev S31 : Shape := ⟨1, ![31]⟩
abbrev S32x32 : Shape := ⟨2, ![32, 32]⟩
abbrev S32x32x1 : Shape := ⟨3, ![32, 32, 1]⟩
abbrev S32x32x2 : Shape := ⟨3, ![32, 32, 2]⟩
abbrev S1024x2 : Shape := ⟨2, ![1024, 2]⟩
abbrev S1024x1x2 : Shape := ⟨3, ![1024, 1, 2]⟩
abbrev S1x1024x2 : Shape := ⟨3, ![1, 1024, 2]⟩
abbrev S1024x1024x2 : Shape := ⟨3, ![1024, 1024, 2]⟩
abbrev S1024x1024 : Shape := ⟨2, ![1024, 1024]⟩
abbrev S2x32 : Shape := ⟨2, ![2, 32]⟩
abbrev S1024x32 : Shape := ⟨2, ![1024, 32]⟩
abbrev S32x1 : Shape := ⟨2, ![32, 1]⟩
abbrev S1024x1 : Shape := ⟨2, ![1024, 1]⟩
abbrev S1x1 : Shape := ⟨2, ![1, 1]⟩
abbrev S1024x1024x1 : Shape := ⟨3, ![1024, 1024, 1]⟩
abbrev S1024x1024x4 : Shape := ⟨3, ![1024, 1024, 4]⟩
abbrev S4x32 : Shape := ⟨2, ![4, 32]⟩
abbrev S1024x1024x32 : Shape := ⟨3, ![1024, 1024, 32]⟩
abbrev S1x1x32 : Shape := ⟨3, ![1, 1, 32]⟩
abbrev S1x1x1 : Shape := ⟨3, ![1, 1, 1]⟩
abbrev S1024 : Shape := ⟨1, ![1024]⟩
abbrev S1x64x1024 : Shape := ⟨3, ![1, 64, 1024]⟩
abbrev S1x1024x1 : Shape := ⟨3, ![1, 1024, 1]⟩
abbrev S1024x64 : Shape := ⟨2, ![1024, 64]⟩

abbrev nBuf : Space → Nat
  | .hbm => 216
  | .vmem => 0
  | .smem => 0
  | _ => 0

abbrev hbmTy0_0 (i : Nat) : BufTy := match i % 128 with
  | 0 => ⟨S1x1024x64, .f32⟩
  | 1 => ⟨S32x4, .f32⟩
  | 2 => ⟨S32, .f32⟩
  | 3 => ⟨S1x32, .f32⟩
  | 4 => ⟨S1, .f32⟩
  | 5 => ⟨S32x2, .f32⟩
  | 6 => ⟨S32, .f32⟩
  | 7 => ⟨S1x32, .f32⟩
  | 8 => ⟨S1, .f32⟩
  | 9 => ⟨S32, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S31, .f32⟩
  | 18 => ⟨S_, .f32⟩
  | 19 => ⟨S31, .f32⟩
  | 20 => ⟨S31, .f32⟩
  | 21 => ⟨S1, .f32⟩
  | 22 => ⟨S_, .f32⟩
  | 23 => ⟨S31, .f32⟩
  | 24 => ⟨S31, .f32⟩
  | 25 => ⟨S31, .f32⟩
  | 26 => ⟨S31, .f32⟩
  | 27 => ⟨S1, .f32⟩
  | 28 => ⟨S31, .f32⟩
  | 29 => ⟨S31, .f32⟩
  | 30 => ⟨S31, .f32⟩
  | 31 => ⟨S1, .f32⟩
  | 32 => ⟨S32, .f32⟩
  | 33 => ⟨S32x32, .f32⟩
  | 34 => ⟨S32x32, .f32⟩
  | 35 => ⟨S32x32x1, .f32⟩
  | 36 => ⟨S32x32x1, .f32⟩
  | 37 => ⟨S32x32x2, .f32⟩
  | 38 => ⟨S1024x2, .f32⟩
  | 39 => ⟨S1024x1x2, .f32⟩
  | 40 => ⟨S1x1024x2, .f32⟩
  | 41 => ⟨S1024x1024x2, .f32⟩
  | 42 => ⟨S1024x1024x2, .f32⟩
  | 43 => ⟨S1024x1024x2, .f32⟩
  | 44 => ⟨S1024x1024x2, .f32⟩
  | 45 => ⟨S_, .f32⟩
  | 46 => ⟨S1024x1024, .f32⟩
  | 47 => ⟨S1024x1024, .f32⟩
  | 48 => ⟨S_, .f32⟩
  | 49 => ⟨S1024x1024, .f32⟩
  | 50 => ⟨S1024x1024, .i1⟩
  | 51 => ⟨S1024x1024, .f32⟩
  | 52 => ⟨S2x32, .f32⟩
  | 53 => ⟨S1024x32, .f32⟩
  | 54 => ⟨S1x32, .f32⟩
  | 55 => ⟨S1024x32, .f32⟩
  | 56 => ⟨S1024x32, .f32⟩
  | 57 => ⟨S_, .f32⟩
  | 58 => ⟨S1024x32, .f32⟩
  | 59 => ⟨S1024x32, .f32⟩
  | 60 => ⟨S32x1, .f32⟩
  | 61 => ⟨S1024x1, .f32⟩
  | 62 => ⟨S1x1, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x1, .f32⟩
  | 69 => ⟨S1024x1, .f32⟩
  | 70 => ⟨S1024x1, .i1⟩
  | 71 => ⟨S1024x1, .f32⟩
  | 72 => ⟨S1024x1, .f32⟩
  | 73 => ⟨S1024x1, .f32⟩
  | 74 => ⟨S1024x1, .f32⟩
  | 75 => ⟨S1024x1, .f32⟩
  | 76 => ⟨S1024x1, .f32⟩
  | 77 => ⟨S1024x1, .f32⟩
  | 78 => ⟨S1024x1, .f32⟩
  | 79 => ⟨S_, .f32⟩
  | 80 => ⟨S1024x1, .f32⟩
  | 81 => ⟨S1024x1, .f32⟩
  | 82 => ⟨S1024x1024, .f32⟩
  | 83 => ⟨S1024x1024, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S31, .f32⟩
  | 92 => ⟨S_, .f32⟩
  | 93 => ⟨S31, .f32⟩
  | 94 => ⟨S31, .f32⟩
  | 95 => ⟨S1, .f32⟩
  | 96 => ⟨S_, .f32⟩
  | 97 => ⟨S31, .f32⟩
  | 98 => ⟨S31, .f32⟩
  | 99 => ⟨S31, .f32⟩
  | 100 => ⟨S31, .f32⟩
  | 101 => ⟨S1, .f32⟩
  | 102 => ⟨S31, .f32⟩
  | 103 => ⟨S31, .f32⟩
  | 104 => ⟨S31, .f32⟩
  | 105 => ⟨S1, .f32⟩
  | 106 => ⟨S32, .f32⟩
  | 107 => ⟨S_, .f32⟩
  | 108 => ⟨S_, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S1024x1024, .i32⟩
  | 120 => ⟨S_, .i32⟩
  | 121 => ⟨S_, .i32⟩
  | 122 => ⟨S_, .i32⟩
  | 123 => ⟨S1024x1024, .i32⟩
  | 124 => ⟨S1024x1024, .i32⟩
  | 125 => ⟨S_, .i32⟩
  | 126 => ⟨S1024x1024, .i32⟩
  | 127 => ⟨S1024x1024, .i32⟩
  | _ => ⟨S1x1024x64, .f32⟩

abbrev hbmTy0_1 (i : Nat) : BufTy := match i % 128 with
  | 0 => ⟨S_, .i32⟩
  | 1 => ⟨S1024x1024, .i32⟩
  | 2 => ⟨S1024x1024, .i1⟩
  | 3 => ⟨S_, .i32⟩
  | 4 => ⟨S1024x1024, .i32⟩
  | 5 => ⟨S1024x1024, .i32⟩
  | 6 => ⟨S1024x1024, .i32⟩
  | 7 => ⟨S1024x1024x1, .i32⟩
  | 8 => ⟨S1024x1024, .f32⟩
  | 9 => ⟨S_, .i32⟩
  | 10 => ⟨S1024x1024, .i32⟩
  | 11 => ⟨S1024x1024, .i32⟩
  | 12 => ⟨S_, .i32⟩
  | 13 => ⟨S1024x1024, .i32⟩
  | 14 => ⟨S1024x1024, .i1⟩
  | 15 => ⟨S_, .i32⟩
  | 16 => ⟨S1024x1024, .i32⟩
  | 17 => ⟨S1024x1024, .i32⟩
  | 18 => ⟨S1024x1024, .i32⟩
  | 19 => ⟨S1024x1024x1, .i32⟩
  | 20 => ⟨S1024x1024, .f32⟩
  | 21 => ⟨S_, .i32⟩
  | 22 => ⟨S1024x1024, .i32⟩
  | 23 => ⟨S1024x1024, .i1⟩
  | 24 => ⟨S_, .i32⟩
  | 25 => ⟨S1024x1024, .i32⟩
  | 26 => ⟨S1024x1024, .i32⟩
  | 27 => ⟨S1024x1024, .i32⟩
  | 28 => ⟨S1024x1024x1, .i32⟩
  | 29 => ⟨S1024x1024, .f32⟩
  | 30 => ⟨S_, .i32⟩
  | 31 => ⟨S1024x1024, .i32⟩
  | 32 => ⟨S1024x1024, .i32⟩
  | 33 => ⟨S_, .i32⟩
  | 34 => ⟨S1024x1024, .i32⟩
  | 35 => ⟨S1024x1024, .i1⟩
  | 36 => ⟨S_, .i32⟩
  | 37 => ⟨S1024x1024, .i32⟩
  | 38 => ⟨S1024x1024, .i32⟩
  | 39 => ⟨S1024x1024, .i32⟩
  | 40 => ⟨S1024x1024x1, .i32⟩
  | 41 => ⟨S1024x1024, .f32⟩
  | 42 => ⟨S1024x1024, .f32⟩
  | 43 => ⟨S1024x1024, .f32⟩
  | 44 => ⟨S_, .f32⟩
  | 45 => ⟨S1024x1024, .f32⟩
  | 46 => ⟨S1024x1024, .f32⟩
  | 47 => ⟨S1024x1024, .f32⟩
  | 48 => ⟨S_, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1x2, .f32⟩
  | 56 => ⟨S1024x1024x2, .f32⟩
  | 57 => ⟨S1x1024x2, .f32⟩
  | 58 => ⟨S1024x1024x2, .f32⟩
  | 59 => ⟨S1024x1024x4, .f32⟩
  | 60 => ⟨S4x32, .f32⟩
  | 61 => ⟨S1024x1024x32, .f32⟩
  | 62 => ⟨S1x1x32, .f32⟩
  | 63 => ⟨S1024x1024x32, .f32⟩
  | 64 => ⟨S1024x1024x32, .f32⟩
  | 65 => ⟨S_, .f32⟩
  | 66 => ⟨S1024x1024x32, .f32⟩
  | 67 => ⟨S1024x1024x32, .f32⟩
  | 68 => ⟨S32x1, .f32⟩
  | 69 => ⟨S1024x1024x1, .f32⟩
  | 70 => ⟨S1x1x1, .f32⟩
  | 71 => ⟨S1024x1024x1, .f32⟩
  | 72 => ⟨S1024x1024x1, .f32⟩
  | 73 => ⟨S1024x1024, .f32⟩
  | 74 => ⟨S1024x1024, .f32⟩
  | 75 => ⟨S1024x1024, .f32⟩
  | 76 => ⟨S_, .f32⟩
  | 77 => ⟨S1024, .f32⟩
  | 78 => ⟨S1024x1, .f32⟩
  | 79 => ⟨S_, .f32⟩
  | 80 => ⟨S1024x1, .f32⟩
  | 81 => ⟨S1024x1, .f32⟩
  | 82 => ⟨S1x64x1024, .f32⟩
  | 83 => ⟨S1x1024x64, .f32⟩
  | 84 => ⟨S1x1024x1, .f32⟩
  | 85 => ⟨S1x1024x64, .f32⟩
  | 86 => ⟨S1x1024x64, .f32⟩
  | 87 => ⟨S1024x64, .f32⟩
  | _ => ⟨S1x1024x64, .f32⟩

abbrev hbmTy (i : Nat) : BufTy := match i / 128 with
  | 0 => hbmTy0_0 i
  | 1 => hbmTy0_1 i
  | _ => ⟨S1x1024x64, .f32⟩

abbrev bufTy : (tb : Table) → Fin (tcTables nBuf tb) → BufTy
  | .hbm, ⟨i, _⟩ => hbmTy i
  | _, _ => ⟨S1x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_v12 : Ref sig .tc := ⟨.hbm, 47, rfl⟩
abbrev main_cst_1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v28 : Ref sig .tc := ⟨.hbm, 78, rfl⟩
abbrev main_cst_3 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_4 : Ref sig .tc := ⟨.hbm, 84, rfl⟩
abbrev main_cst_5 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_cst : Ref sig .tc := ⟨.hbm, 89, rfl⟩
abbrev main_call3_v3 : Ref sig .tc := ⟨.hbm, 90, rfl⟩
abbrev main_call3_v4 : Ref sig .tc := ⟨.hbm, 91, rfl⟩
abbrev main_call3_cst_0 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_cst_1 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_v15 : Ref sig .tc := ⟨.hbm, 104, rfl⟩
abbrev main_call3_v16 : Ref sig .tc := ⟨.hbm, 105, rfl⟩
abbrev main_v33 : Ref sig .tc := ⟨.hbm, 106, rfl⟩
abbrev main_cst_6 : Ref sig .tc := ⟨.hbm, 107, rfl⟩
abbrev main_cst_7 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v34 : Ref sig .tc := ⟨.hbm, 114, rfl⟩
abbrev main_cst_8 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_c : Ref sig .tc := ⟨.hbm, 120, rfl⟩
abbrev main_c_9 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v39 : Ref sig .tc := ⟨.hbm, 127, rfl⟩
abbrev main_c_10 : Ref sig .tc := ⟨.hbm, 128, rfl⟩
abbrev main_v40 : Ref sig .tc := ⟨.hbm, 129, rfl⟩
abbrev main_v41 : Ref sig .tc := ⟨.hbm, 130, rfl⟩
abbrev main_c_11 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_c_12 : Ref sig .tc := ⟨.hbm, 137, rfl⟩
abbrev main_v47 : Ref sig .tc := ⟨.hbm, 138, rfl⟩
abbrev main_v48 : Ref sig .tc := ⟨.hbm, 139, rfl⟩
abbrev main_c_13 : Ref sig .tc := ⟨.hbm, 140, rfl⟩
abbrev main_v49 : Ref sig .tc := ⟨.hbm, 141, rfl⟩
abbrev main_v50 : Ref sig .tc := ⟨.hbm, 142, rfl⟩
abbrev main_c_14 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_c_15 : Ref sig .tc := ⟨.hbm, 149, rfl⟩
abbrev main_v56 : Ref sig .tc := ⟨.hbm, 150, rfl⟩
abbrev main_v57 : Ref sig .tc := ⟨.hbm, 151, rfl⟩
abbrev main_c_16 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_c_17 : Ref sig .tc := ⟨.hbm, 158, rfl⟩
abbrev main_v63 : Ref sig .tc := ⟨.hbm, 159, rfl⟩
abbrev main_v64 : Ref sig .tc := ⟨.hbm, 160, rfl⟩
abbrev main_c_18 : Ref sig .tc := ⟨.hbm, 161, rfl⟩
abbrev main_v65 : Ref sig .tc := ⟨.hbm, 162, rfl⟩
abbrev main_v66 : Ref sig .tc := ⟨.hbm, 163, rfl⟩
abbrev main_c_19 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_cst_20 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_cst_21 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_cst_22 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_cst_23 : Ref sig .tc := ⟨.hbm, 204, rfl⟩
abbrev main_v103 : Ref sig .tc := ⟨.hbm, 205, rfl⟩
abbrev main_v104 : Ref sig .tc := ⟨.hbm, 206, rfl⟩
abbrev main_cst_24 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩

abbrev nD : Nat := 1
abbrev τ : Topo := Topo.v7x

variable {F : FTy → Type} [FloatOps F]
-- ==== Proof.RefTerms.lean ====
/- The reference's intermediate arrays over plainly typed arguments: the grid's axis, the coordinates, the
   distances, the mask, the radii, the scaled distance, the knot index, the interpolation weight. -/
module

public import proofs.«01_k».proof.Proof.Gen.ReferenceIdeal.Run
public import Idealize.ShloMosaic.PureOps.Ideal

@[expose] public section

set_option maxRecDepth 16384

noncomputable section

namespace Cert.Ref

open Idealize.ShloMosaic Cert.ReferenceIdeal Cert.ReferenceIdeal.Gen Cert.ReferenceIdeal.Value

/-- An array of one constant, of any shape. -/
abbrev splat {s : Shape} (h : S_.BroadcastsInDim s (![] : Fin 0 → Fin s.rank)) (w : BitVec 32) : FVec Ideal s .f32 :=
  broadcastInDim s ![] h (constant S_ .f32 w)

/-- `k / 31` for the first 31 points of an axis. -/
def stepA : FVec Ideal S31 .f32 := Host.divf (sitofp .f32 (iotaInDim S31 32 0)) (splat bcast_S_S31 0x41F80000#32)

/-- The 32 points of an axis, which are also the spline's knots. -/
def axisA : FVec Ideal S32 .f32 :=
  concatenate S32 0
    [⟨S31, addf (mulf (broadcastInDim S31 ![0] bcast_S1_S31_0 (shapeCast S1 (id (constant S_ .f32 0x00000000#32)) shapeCasts_S_S1))
        (subf (splat bcast_S_S31 0x3F800000#32) stepA))
      (mulf (broadcastInDim S31 ![0] bcast_S1_S31_0 (shapeCast S1 (id (constant S_ .f32 0x3F800000#32)) shapeCasts_S_S1)) stepA)⟩,
     ⟨S1, broadcastInDim S1 ![] bcast_S_S1 (id (constant S_ .f32 0x3F800000#32))⟩] concatenates_S31_S1_S32_d0

/-- The coordinates of the 1024 grid points. -/
def coordsA : FVec Ideal S1024x2 .f32 :=
  shapeCast S1024x2 (concatenate S32x32x2 2
    [⟨S32x32x1, broadcastInDim S32x32x1 ![0, 1] bcast_S32x32_S32x32x1_0_1 (broadcastInDim S32x32 ![0] bcast_S32_S32x32_0 axisA)⟩,
     ⟨S32x32x1, broadcastInDim S32x32x1 ![0, 1] bcast_S32x32_S32x32x1_0_1 (broadcastInDim S32x32 ![1] bcast_S32_S32x32_1 axisA)⟩]
    concatenates_S32x32x1_S32x32x1_S32x32x2_d2) shapeCasts_S32x32x2_S1024x2

/-- The coordinates of the first point of a pair. -/
def leftA : FVec Ideal S1024x1024x2 .f32 :=
  broadcastInDim S1024x1024x2 ![0, 1, 2] bcast_S1024x1x2_S1024x1024x2_0_1_2 (broadcastInDim S1024x1x2 ![0, 2] bcast_S1024x2_S1024x1x2_0_2 coordsA)

/-- The coordinates of the second point of a pair. -/
def rightA : FVec Ideal S1024x1024x2 .f32 :=
  broadcastInDim S1024x1024x2 ![0, 1, 2] bcast_S1x1024x2_S1024x1024x2_0_1_2 (broadcastInDim S1x1024x2 ![1, 2] bcast_S1024x2_S1x1024x2_1_2 coordsA)

/-- The distance of every pair of points. -/
def distA : FVec Ideal S1024x1024 .f32 :=
  Host.sqrt (Host.reduceAdd (mulf (subf leftA rightA) (subf leftA rightA)) (constant S_ .f32 0x00000000#32) reducesTo_S1024x1024x2_S1024x1024_d2 h_S_)

/-- One where a pair is within the radius, zero elsewhere. -/
def maskA : FVec Ideal S1024x1024 .f32 := uitofp .f32 (cmpf .ole distA (splat bcast_S_S1024x1024 0x3E4CCCCD#32))

/-- The second layer of the radius net, before its softplus. -/
def netA (Wh1 : FVec Ideal S32x2 .f32) (bh1 : FVec Ideal S32 .f32) (Wh2 : FVec Ideal S1x32 .f32) (bh2 : FVec Ideal S1 .f32) : FVec Ideal S1024x1 .f32 :=
  addf (Host.dotGeneral dot_S1024x32_S32x1_S1024x1_1_0_0_1_n_n none
      (maximumf (addf (Host.dotGeneral dot_S1024x2_S2x32_S1024x32_1_0_0_1_n_n none coordsA (transpose S2x32 [1, 0] Wh1 transposes_S32x2_S2x32_1_0))
          (broadcastInDim S1024x32 ![0, 1] bcast_S1x32_S1024x32_0_1 (broadcastInDim S1x32 ![1] bcast_S32_S1x32_1 bh1)))
        (splat bcast_S_S1024x32 0x00000000#32))
      (transpose S32x1 [1, 0] Wh2 transposes_S1x32_S32x1_1_0))
    (broadcastInDim S1024x1 ![0, 1] bcast_S1x1_S1024x1_0_1 (broadcastInDim S1x1 ![1] bcast_S1_S1x1_1 bh2))

/-- The softplus of an array, as `logaddexp` with zero spells it. -/
def softplusA (u : FVec Ideal S1024x1 .f32) : FVec Ideal S1024x1 .f32 :=
  select (cmpf .une (subf u (splat bcast_S_S1024x1 0x00000000#32)) (subf u (splat bcast_S_S1024x1 0x00000000#32)))
    (addf u (splat bcast_S_S1024x1 0x00000000#32))
    (addf (maximumf u (splat bcast_S_S1024x1 0x00000000#32))
      (Host.log1p (Host.exp (Host.negf (Host.absf (subf u (splat bcast_S_S1024x1 0x00000000#32)))))))

/-- The distance over the radius of the first point, clipped to the unit interval. -/
def ratioA (u : FVec Ideal S1024x1 .f32) : FVec Ideal S1024x1024 .f32 :=
  minimumf (broadcastInDim S1024x1024 ![] bcast_S_S1024x1024 (id (constant S_ .f32 0x3F800000#32)))
    (maximumf (broadcastInDim S1024x1024 ![] bcast_S_S1024x1024 (id (constant S_ .f32 0x00000000#32)))
      (Host.divf distA (broadcastInDim S1024x1024 ![0, 1] bcast_S1024x1_S1024x1024_0_1 (addf (softplusA u) (splat bcast_S_S1024x1 0x358637BD#32)))))

/-- The knot below a clipped ratio. -/
def knotA (r : FVec Ideal S1024x1024 .f32) : IVec S1024x1024 32 :=
  minsi (broadcastInDim S1024x1024 ![] bcast_S_S1024x1024 (id (constantI S_ 32 30#32)))
    (maxsi (broadcastInDim S1024x1024 ![] bcast_S_S1024x1024 (id (constantI S_ 32 0#32)))
      (fptosi 32 (Host.floor (mulf r (splat bcast_S_S1024x1024 0x41F80000#32)))))

/-- The entries of a table at an array of indices, a negative one counted from the end. -/
def takeA (T : FVec Ideal S32 .f32) (q : IVec S1024x1024 32) : FVec Ideal S1024x1024 .f32 :=
  Host.gather gather_S32_S1024x1024x1_S1024x1024_n_0_n_n_0_2_1 T
    (broadcastInDim S1024x1024x1 ![0, 1] bcast_S1024x1024_S1024x1024x1_0_1
      (select (cmpi .slt q (broadcastInDim S1024x1024 ![] bcast_S_S1024x1024 (constantI S_ 32 0#32)))
        (addi q (broadcastInDim S1024x1024 ![] bcast_S_S1024x1024 (constantI S_ 32 32#32))) q))

/-- The next index. -/
def nextA (q : IVec S1024x1024 32) : IVec S1024x1024 32 :=
  addi q (broadcastInDim S1024x1024 ![] bcast_S_S1024x1024 (constantI S_ 32 1#32))

/-- The weight of the right knot. -/
def rightWeightA (r : FVec Ideal S1024x1024 .f32) (q : IVec S1024x1024 32) : FVec Ideal S1024x1024 .f32 :=
  Host.divf (subf r (takeA axisA q)) (addf (subf (takeA axisA (nextA q)) (takeA axisA q)) (splat bcast_S_S1024x1024 0x322BCC77#32))

/-- The spline's value at a clipped ratio. -/
def splineA (S : FVec Ideal S32 .f32) (r : FVec Ideal S1024x1024 .f32) : FVec Ideal S1024x1024 .f32 :=
  addf (mulf (subf (splat bcast_S_S1024x1024 0x3F800000#32) (rightWeightA r (knotA r))) (takeA S (knotA r)))
    (mulf (rightWeightA r (knotA r)) (takeA S (nextA (knotA r))))

/-- The pair net's value at every pair. -/
def pairNetA (W1 : FVec Ideal S32x4 .f32) (b1 : FVec Ideal S32 .f32) (W2 : FVec Ideal S1x32 .f32) (b2 : FVec Ideal S1 .f32) : FVec Ideal S1024x1024 .f32 :=
  shapeCast S1024x1024 (addf (Host.dotGeneral dot_S1024x1024x32_S32x1_S1024x1024x1_2_0_01_1_n_n none
      (maximumf (addf (Host.dotGeneral dot_S1024x1024x4_S4x32_S1024x1024x32_2_0_01_1_n_n none
            (concatenate S1024x1024x4 2 [⟨S1024x1024x2, leftA⟩, ⟨S1024x1024x2, rightA⟩] concatenates_S1024x1024x2_S1024x1024x2_S1024x1024x4_d2)
            (transpose S4x32 [1, 0] W1 transposes_S32x4_S4x32_1_0))
          (broadcastInDim S1024x1024x32 ![0, 1, 2] bcast_S1x1x32_S1024x1024x32_0_1_2 (broadcastInDim S1x1x32 ![2] bcast_S32_S1x1x32_2 b1)))
        (splat bcast_S_S1024x1024x32 0x00000000#32))
      (transpose S32x1 [1, 0] W2 transposes_S1x32_S32x1_1_0))
    (broadcastInDim S1024x1024x1 ![0, 1, 2] bcast_S1x1x1_S1024x1024x1_0_1_2 (broadcastInDim S1x1x1 ![2] bcast_S1_S1x1x1_2 b2))) shapeCasts_S1024x1024x1_S1024x1024

/-- The sum of one row of the mask, at least one. -/
def rowCountA : FVec Ideal S1024x1 .f32 :=
  maximumf (broadcastInDim S1024x1 ![0] bcast_S1024_S1024x1_0
      (Host.reduceAdd maskA (constant S_ .f32 0x00000000#32) reducesTo_S1024x1024_S1024_d1 h_S_))
    (splat bcast_S_S1024x1 0x3F800000#32)

/-- The reference's result. -/
def resultA (x : FVec Ideal S1x1024x64 .f32) (W1 : FVec Ideal S32x4 .f32) (b1 : FVec Ideal S32 .f32) (W2 : FVec Ideal S1x32 .f32) (b2 : FVec Ideal S1 .f32)
    (Wh1 : FVec Ideal S32x2 .f32) (bh1 : FVec Ideal S32 .f32) (Wh2 : FVec Ideal S1x32 .f32) (bh2 : FVec Ideal S1 .f32) (S : FVec Ideal S32 .f32) : FVec Ideal S1024x64 .f32 :=
  shapeCast S1024x64 (Host.divf
    (transpose S1x1024x64 [0, 2, 1] (Host.dotGeneral dot_S1x1024x64_S1024x1024_S1x64x1024_1_1_02_0_n_n none x
      (mulf (mulf (pairNetA W1 b1 W2 b2) maskA) (mulf (splineA S (ratioA (netA Wh1 bh1 Wh2 bh2))) maskA))) transposes_S1x64x1024_S1x1024x64_0_2_1)
    (broadcastInDim S1x1024x64 ![0, 1, 2] bcast_S1x1024x1_S1x1024x64_0_1_2 (broadcastInDim S1x1024x1 ![1, 2] bcast_S1024x1_S1x1024x1_1_2 rowCountA)))
    shapeCasts_S1x1024x64_S1024x64

end Cert.Ref

end
-- ==== Proof.RefRun.lean ====
/- What the reference's run leaves: the named arrays of RefTerms at the argument arrays. -/
module

public import proofs.«01_k».proof.Proof.RefTerms

@[expose] public section

set_option maxRecDepth 16384

noncomputable section

namespace Cert.Ref

open Idealize.ShloMosaic Idealize.ShloMosaic.TcCoe Idealize.SL.Sem Cert.ReferenceIdeal Cert.ReferenceIdeal.Gen Cert.ReferenceIdeal.Value

variable (m : (ℓ : Loc nD τ sig) → Buf (Elt Ideal) ℓ) (ρ : Dev nD → PrngReg)

/-- The reference runs, leaves its arguments and ends with `resultA` of them. -/
theorem run_result : θ_run defs (onTc (τ := τ) (main (F := Ideal))) ⟨m, fun _ => 0, ρ⟩ fun r => ∀ c : Dev nD,
      r.2.mem ((c.tc : Thread nD τ).loc main_v112) = resultA (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans rfl, (h c).2⟩) (run m ρ)

end Cert.Ref

end
-- ==== Proof.Consts.lean ====
/- The float constants of the two programs, as the extended reals their patterns denote. -/
module

public import Idealize.ShloMosaic.PureOps.Ideal
public import Idealize.ShloMosaic.Lib.IdealHost

@[expose] public section

noncomputable section

namespace Cert.Lit

open Idealize.ShloMosaic

/-- The pattern of `31.0` denotes the real `31`. -/
theorem w31 : Ideal.ofBits .f32 0x41F80000#32 = ((31 : ℝ) : EReal) := by
  simp [Ideal.ofBits, Ideal.ieee, -EReal.coe_mul]; norm_num

/-- The pattern of `2.0` denotes the real `2`. -/
theorem w2 : Ideal.ofBits .f32 0x40000000#32 = ((2 : ℝ) : EReal) := by
  simp [Ideal.ofBits, Ideal.ieee, -EReal.coe_mul]; norm_num

/-- The pattern of `1e-6` denotes this dyadic rational. -/
theorem wTiny : Ideal.ofBits .f32 0x358637BD#32 = ((8796093 / 8796093022208 : ℝ) : EReal) := by
  simp [Ideal.ofBits, Ideal.ieee, -EReal.coe_mul]; norm_num

/-- The pattern of `1e-8` denotes this dyadic rational. -/
theorem wEps : Ideal.ofBits .f32 0x322BCC77#32 = ((11258999 / 1125899906842624 : ℝ) : EReal) := by
  simp [Ideal.ofBits, Ideal.ieee, -EReal.coe_mul]; norm_num

/-- The pattern of `0.2` denotes this dyadic rational. -/
theorem wRadius : Ideal.ofBits .f32 0x3E4CCCCD#32 = ((13421773 / 67108864 : ℝ) : EReal) := by
  simp [Ideal.ofBits, Ideal.ieee, -EReal.coe_mul]; norm_num

/-- The pattern of the positive infinity denotes the top element. -/
theorem wInf : Ideal.ofBits .f32 0x7F800000#32 = ⊤ := by
  simp [Ideal.ofBits, Ideal.ieee]

end Cert.Lit

end
-- ==== Proof.Spec.lean ====
/- The mathematics both programs compute, on the extended reals: the grid's coordinates, the distances and the mask,
   the radius, the spline as ramps and as interpolation, the pair net, and the weighted mean. -/
module

public import Idealize.ShloMosaic.PureOps.Ideal
public import Mathlib.Algebra.BigOperators.Intervals

@[expose] public section

noncomputable section

namespace Cert.Spec

open Idealize.ShloMosaic

/-- First coordinate of a grid point. -/
def gx (n : ℕ) : ℝ := ((n / 32 : ℕ) : ℝ) / 31

/-- Second coordinate of a grid point. -/
def gy (n : ℕ) : ℝ := ((n % 32 : ℕ) : ℝ) / 31

/-- The distance of two grid points. -/
def dist (i j : ℕ) : ℝ := Real.sqrt ((gx i - gx j) * (gx i - gx j) + (gy i - gy j) * (gy i - gy j))

/-- The radius within which two points are neighbours. -/
def radius : ℝ := 13421773 / 67108864

/-- The small number added to a knot's spacing. -/
def eps : ℝ := 11258999 / 1125899906842624

open scoped Classical in
/-- One for neighbours, zero otherwise. -/
def mask (i j : ℕ) : EReal := if dist i j ≤ radius then 1 else 0

/-- One hidden unit of the pair net. -/
def hidden (w1 : Fin 32 → Fin 4 → EReal) (b1 : Fin 32 → EReal) (i j : ℕ) (k : Fin 32) : EReal :=
  max ((gx i : EReal) * w1 k 0 + (gy i : EReal) * w1 k 1 + (gx j : EReal) * w1 k 2 + (gy j : EReal) * w1 k 3 + b1 k) 0

/-- The pair net. -/
def phi (w1 : Fin 32 → Fin 4 → EReal) (b1 w2 : Fin 32 → EReal) (b2 : EReal) (i j : ℕ) : EReal :=
  (∑ k : Fin 32, w2 k * hidden w1 b1 i j k) + b2

/-- A number clipped to the unit interval. -/
def clip (y : EReal) : EReal := min 1 (max 0 y)

/-- The spline as a sum of ramps. -/
def ramps (s : ℕ → EReal) (r : EReal) : EReal :=
  s 0 + ∑ k ∈ Finset.range 31, (s (k + 1) - s k) * clip ((r - (((k : ℝ) / 31 : ℝ) : EReal)) * ((1 / (1 / 31 + eps) : ℝ) : EReal))

/-- The index of the interval a number of the unit interval lies in. -/
def knot (x : ℝ) : ℕ := min 30 ⌊x * 31⌋₊

/-- The weight of the right end of the interval. -/
def rightW (x : ℝ) : ℝ := (x - (knot x : ℝ) / 31) / (((knot x + 1 : ℕ) : ℝ) / 31 - (knot x : ℝ) / 31 + eps)

/-- The spline as interpolation between two knots. -/
def interp (s : ℕ → EReal) (x : ℝ) : EReal :=
  (1 - (rightW x : EReal)) * s (knot x) + (rightW x : EReal) * s (knot x + 1)

/-- A table of 32 numbers, zero past its end. -/
def table (s : Fin 32 → EReal) (k : ℕ) : EReal := if h : k < 32 then s ⟨k, h⟩ else 0

/-- The quotient of two reals. -/
theorem div_real (a : ℝ) {b : ℝ} (h : b ≠ 0) : Ideal.div (a : EReal) (b : EReal) = ((a / b : ℝ) : EReal) := by
  rw [Ideal.div_coe h, ← EReal.coe_mul, mul_one_div]

/-- The softplus of a number. -/
def softplus (u : EReal) : EReal := max u 0 + Ideal.log1p (Ideal.exp (-(max u (-u))))

/-- The radius net at a point, before its softplus. -/
def radiusNet (w1 : Fin 32 → Fin 2 → EReal) (b1 w2 : Fin 32 → EReal) (b2 : EReal) (n : ℕ) : EReal :=
  (∑ k, max (gx n * w1 k 0 + gy n * w1 k 1 + b1 k) 0 * w2 k) + b2

/-- The weighted mean over the grid at a point, with the mask's count, at least one, as its denominator. -/
def mean (n : ℕ) (w x : ℕ → EReal) : EReal :=
  Ideal.div (∑ j ∈ Finset.range 1024, w j * x j) (max (∑ j ∈ Finset.range 1024, mask n j) 1)

/-- Points seven rows apart are no neighbours. -/
theorem mask_far {i j : ℕ} (h : i / 32 + 7 ≤ j / 32 ∨ j / 32 + 7 ≤ i / 32) : mask i j = 0 := by
  rw [mask, if_neg]
  rw [not_le]
  have h7 : (7 / 31 : ℝ) ≤ |gx i - gx j| := by
    unfold gx
    rcases h with h | h
    · have : ((i / 32 : ℕ) : ℝ) + 7 ≤ ((j / 32 : ℕ) : ℝ) := by exact_mod_cast h
      rw [abs_sub_comm]
      exact le_trans (by linarith) (le_abs_self _)
    · have : ((j / 32 : ℕ) : ℝ) + 7 ≤ ((i / 32 : ℕ) : ℝ) := by exact_mod_cast h
      exact le_trans (by linarith) (le_abs_self _)
  refine lt_of_lt_of_le (b := (7 / 31 : ℝ)) (by norm_num [radius]) (h7.trans ?_)
  unfold dist
  rw [← Real.sqrt_mul_self_eq_abs]
  exact Real.sqrt_le_sqrt (by nlinarith [mul_self_nonneg (gy i - gy j)])

/-- A sum over the grid is a sum over its blocks of 128 points. -/
theorem sum_blocks {M : Type} [AddCommMonoid M] (f : ℕ → M) (n : ℕ) :
    ∑ j ∈ Finset.range (128 * n), f j = ∑ b ∈ Finset.range n, ∑ l ∈ Finset.range 128, f (128 * b + l) := by
  induction n with
  | zero => simp
  | succ n ih => rw [Finset.sum_range_succ, ← ih, Nat.mul_succ, Finset.sum_range_add]

/-- The first block of a tile's band. -/
def band (t : ℕ) : ℕ := min 3 (t - 2)

/-- A sum over eight blocks that vanishes off a tile's band is the sum over the band. -/
theorem sum_band {M : Type} [AddCommMonoid M] (g : ℕ → M) (t : ℕ) (h : ∀ b < 8, b + 3 ≤ t ∨ t + 3 ≤ b → g b = 0) (ht : t < 8) :
    ∑ b ∈ Finset.range 8, g b = ∑ s ∈ Finset.range 5, g (band t + s) := by
  have h' : ∀ b < 8, b < band t ∨ band t + 5 ≤ b → g b = 0 := fun b hb hc => h b hb (by unfold band at hc; omega)
  have hj : band t ≤ 3 := by unfold band; omega
  generalize band t = n at *
  simp only [Finset.sum_range_succ, Finset.sum_range_zero, zero_add]
  have z := fun b (hb : b < 8) hc => h' b hb hc
  interval_cases n
  · simp [z 5 (by omega) (by omega), z 6 (by omega) (by omega), z 7 (by omega) (by omega)]
  · simp [z 0 (by omega) (by omega), z 6 (by omega) (by omega), z 7 (by omega) (by omega)]
  · simp [z 0 (by omega) (by omega), z 1 (by omega) (by omega), z 7 (by omega) (by omega)]
  · simp [z 0 (by omega) (by omega), z 1 (by omega) (by omega), z 2 (by omega) (by omega)]

/-- A sum over the grid that vanishes where the mask does is the sum over a tile's band. -/
theorem sum_grid {M : Type} [AddCommMonoid M] (i t : ℕ) (ht : t < 8) (hi : i / 128 = t) (f : ℕ → M) (h : ∀ j, mask i j = 0 → f j = 0) :
    ∑ j ∈ Finset.range 1024, f j = ∑ s ∈ Finset.range 5, ∑ l ∈ Finset.range 128, f (128 * (band t + s) + l) := by
  rw [show 1024 = 128 * 8 from rfl, sum_blocks]
  refine sum_band (fun b => ∑ l ∈ Finset.range 128, f (128 * b + l)) t (fun b _ hb => Finset.sum_eq_zero fun l hl => h _ (mask_far ?_)) ht
  rw [Finset.mem_range] at hl
  omega

/-- The weighted mean is the one over a tile's band, when the weights carry the mask. -/
theorem mean_band (n t : ℕ) (ht : t < 8) (hn : n / 128 = t) (w x : ℕ → EReal) :
    mean n (fun j => w j * mask n j) x
      = Ideal.div (∑ s ∈ Finset.range 5, ∑ l ∈ Finset.range 128, w (128 * (band t + s) + l) * mask n (128 * (band t + s) + l) * x (128 * (band t + s) + l))
        (max (∑ s ∈ Finset.range 5, ∑ l ∈ Finset.range 128, mask n (128 * (band t + s) + l)) 1) := by
  rw [mean, sum_grid n t ht hn (fun j => w j * mask n j * x j) (fun j hj => by simp [hj]), sum_grid n t ht hn (fun j => mask n j) (fun j hj => hj)]

/-- A clipped number is a real of the unit interval. -/
theorem clip_real (y : EReal) : ∃ x : ℝ, clip y = x ∧ 0 ≤ x ∧ x ≤ 1 := by
  have h1 : clip y ≤ 1 := min_le_left _ _
  have h0 : 0 ≤ clip y := le_min zero_le_one (le_max_left _ _)
  generalize clip y = z at *
  induction z with
  | bot => simp at h0
  | top => exact absurd h1 (not_le.mpr (EReal.coe_lt_top 1))
  | coe x => exact ⟨x, rfl, by exact_mod_cast h0, by exact_mod_cast h1⟩

/-- Clipping a real. -/
theorem clip_coe (x : ℝ) : clip x = ((min 1 (max 0 x) : ℝ) : EReal) := by
  have hm := EReal.coe_strictMono.monotone
  rw [clip, hm.map_min, hm.map_max, EReal.coe_one, EReal.coe_zero]

/-- A real of the unit interval lies in its interval. -/
theorem knot_bounds {x : ℝ} (h0 : 0 ≤ x) (h1 : x ≤ 1) : (knot x : ℝ) / 31 ≤ x ∧ x ≤ ((knot x : ℝ) + 1) / 31 := by
  have hf := Nat.floor_le (by positivity : 0 ≤ x * 31)
  have hl := Nat.lt_floor_add_one (x * 31)
  unfold knot
  rcases le_total ⌊x * 31⌋₊ 30 with h | h
  · rw [min_eq_right h]; constructor <;> linarith
  · rw [min_eq_left h]
    have : (30 : ℝ) ≤ (⌊x * 31⌋₊ : ℝ) := by exact_mod_cast h
    push_cast
    constructor <;> linarith

/-- The ramps of a real table sum to the interpolation, away from the start of an interval. -/
theorem ramps_real (s : ℕ → ℝ) (x : ℝ) (q : ℕ) (hq : q ≤ 30) (h0 : (q : ℝ) / 31 ≤ x) (h1 : x ≤ ((q : ℝ) + 1) / 31)
    (hc : q = 0 ∨ eps ≤ x - (q : ℝ) / 31) :
    s 0 + ∑ k ∈ Finset.range 31, (s (k + 1) - s k) * min 1 (max 0 ((x - (k : ℝ) / 31) * (1 / (1 / 31 + eps))))
      = (1 - (x - (q : ℝ) / 31) / (1 / 31 + eps)) * s q + (x - (q : ℝ) / 31) / (1 / 31 + eps) * s (q + 1) := by
  have he : (0 : ℝ) < eps := by norm_num [eps]
  have hd : (0 : ℝ) < 1 / 31 + eps := by linarith
  have before : ∀ k < q, min 1 (max 0 ((x - (k : ℝ) / 31) * (1 / (1 / 31 + eps)))) = 1 := by
    intro k hk
    have hk' : (k : ℝ) + 1 ≤ q := by exact_mod_cast hk
    rcases hc with rfl | hc
    · omega
    · refine min_eq_left (le_trans ?_ (le_max_right _ _))
      rw [mul_one_div, le_div_iff₀ hd]; linarith
  have at_q : min 1 (max 0 ((x - (q : ℝ) / 31) * (1 / (1 / 31 + eps)))) = (x - (q : ℝ) / 31) / (1 / 31 + eps) := by
    rw [mul_one_div, max_eq_right (div_nonneg (by linarith) hd.le), min_eq_right]
    rw [div_le_one hd]; linarith
  have after : ∀ k, q < k → min 1 (max 0 ((x - (k : ℝ) / 31) * (1 / (1 / 31 + eps)))) = 0 := by
    intro k hk
    have hk' : (q : ℝ) + 1 ≤ k := by exact_mod_cast hk
    rw [max_eq_left, min_eq_right zero_le_one]
    exact mul_nonpos_of_nonpos_of_nonneg (by linarith) (by positivity)
  have key : ∀ n, s 0 + ∑ k ∈ Finset.range n, (s (k + 1) - s k) * min 1 (max 0 ((x - (k : ℝ) / 31) * (1 / (1 / 31 + eps))))
      = if n ≤ q then s n else (1 - (x - (q : ℝ) / 31) / (1 / 31 + eps)) * s q + (x - (q : ℝ) / 31) / (1 / 31 + eps) * s (q + 1) := by
    intro n
    induction n with
    | zero => simp
    | succ n ih =>
      rw [Finset.sum_range_succ, ← add_assoc, ih]
      rcases lt_trichotomy n q with h | h | h
      · rw [if_pos h.le, if_pos (by omega : n + 1 ≤ q), before n h]; ring
      · subst h; rw [if_pos le_rfl, if_neg (by omega), at_q]; ring
      · rw [if_neg (by omega), if_neg (by omega), after n h]; ring
  rw [key 31, if_neg (by omega)]

/-- The ramps of a finite table are its interpolation, where the argument is clear of the knots. -/
theorem ramps_eq (s : ℕ → EReal) (hs : ∀ k < 32, ∃ y : ℝ, s k = y) {x : ℝ} (h0 : 0 ≤ x) (h1 : x ≤ 1)
    (hc : knot x = 0 ∨ eps ≤ x - (knot x : ℝ) / 31) : ramps s x = interp s x := by
  have hq : knot x ≤ 30 := min_le_left _ _
  obtain ⟨y, hy⟩ : ∃ y : ℕ → ℝ, ∀ k < 32, s k = y k := by
    refine ⟨fun k => (s k).toReal, fun k hk => ?_⟩
    obtain ⟨y, hy⟩ := hs k hk
    simp [hy]
  have hsum : ∀ n ≤ 31, ∑ k ∈ Finset.range n, (s (k + 1) - s k) * clip (((x : EReal) - (((k : ℝ) / 31 : ℝ) : EReal)) * ((1 / (1 / 31 + eps) : ℝ) : EReal))
      = ((∑ k ∈ Finset.range n, (y (k + 1) - y k) * min 1 (max 0 ((x - (k : ℝ) / 31) * (1 / (1 / 31 + eps)))) : ℝ) : EReal) := by
    intro n hn
    induction n with
    | zero => simp
    | succ n ih =>
      rw [Finset.sum_range_succ, Finset.sum_range_succ, ih (by omega), hy n (by omega), hy (n + 1) (by omega), ← EReal.coe_sub, ← EReal.coe_sub,
        ← EReal.coe_mul, clip_coe, ← EReal.coe_mul, ← EReal.coe_add]
  obtain ⟨b0, b1⟩ := knot_bounds h0 h1
  have hw : rightW x = (x - (knot x : ℝ) / 31) / (1 / 31 + eps) := by
    unfold rightW; congr 1; push_cast; ring
  rw [ramps, hsum 31 le_rfl, hy 0 (by omega), ← EReal.coe_add, ramps_real y x (knot x) hq b0 b1 hc, interp, hy _ (by omega), hy _ (by omega), hw]
  rw [← EReal.coe_one, ← EReal.coe_sub, ← EReal.coe_mul, ← EReal.coe_mul, ← EReal.coe_add]

/-- A softplus is not negative. -/
theorem softplus_nonneg (u : EReal) : 0 ≤ softplus u := by
  refine add_nonneg (le_max_right _ _) ?_
  have hv : ∀ a : EReal, 0 ≤ a → 0 ≤ Ideal.log1p a := by
    intro a ha
    unfold Ideal.log1p
    induction a with
    | bot => simp at ha
    | top => rw [← EReal.coe_one, EReal.add_top_of_ne_bot (EReal.coe_ne_bot 1), Ideal.log_top]; exact le_top
    | coe r =>
      have hr : (0 : ℝ) ≤ r := by exact_mod_cast ha
      rw [← EReal.coe_one, ← EReal.coe_add]
      rw [Ideal.log_coe, if_neg (by linarith)]
      exact_mod_cast Real.log_nonneg (by linarith)
  refine hv _ ?_
  generalize -(max u (-u)) = z
  induction z with
  | bot => rw [Ideal.exp_bot]
  | top => rw [Ideal.exp_top]; exact le_top
  | coe r => rw [Ideal.exp_coe]; exact_mod_cast (Real.exp_pos r).le

/-- A refined reciprocal times a real is the quotient. -/
theorem recip_refined (d : ℝ) {y : EReal} (hy : 0 < y) :
    (d : EReal) * (Ideal.div 1 y * (2 - y * Ideal.div 1 y)) = Ideal.div d y := by
  induction y with
  | bot => simp at hy
  | top =>
    simp [Ideal.div]
  | coe p =>
    have hp : 0 < p := by exact_mod_cast hy
    rw [Ideal.div_coe hp.ne', Ideal.div_coe hp.ne', one_mul]
    rw [show (2 : EReal) = ((2 : ℝ) : EReal) from rfl, ← EReal.coe_mul, ← EReal.coe_sub, ← EReal.coe_mul, ← EReal.coe_mul, ← EReal.coe_mul]
    congr 1
    field_simp
    ring

/-- The mask is zero or one. -/
theorem mask_cases (i j : ℕ) : (mask i j = 0) ∨ (mask i j = 1 ∧ dist i j ≤ radius) := by
  unfold mask
  split
  · exact .inr ⟨rfl, by assumption⟩
  · exact .inl rfl

/-- A weight masked once is the product of its two factors masked each, when the factors agree on the mask. -/
theorem weight_eq (i j : ℕ) (a b b' : EReal) (h : dist i j ≤ radius → b = b') : a * b * mask i j = a * mask i j * (b' * mask i j) := by
  rcases mask_cases i j with h0 | ⟨h1, hd⟩
  · simp [h0]
  · rw [h1, h hd]; simp

end Cert.Spec

end
-- ==== Proof.RefAt.lean ====
/- The reference's arrays read at one pair of grid points, down to the mathematics. -/
module

public import proofs.«01_k».proof.Proof.RefTerms
public import proofs.«01_k».proof.Proof.Consts
public import proofs.«01_k».proof.Proof.Spec
public import Idealize.ShloMosaic.Lib.Pointwise

@[expose] public section

set_option maxRecDepth 16384

noncomputable section

namespace Cert.Ref

open Idealize.ShloMosaic Cert.ReferenceIdeal Cert.ReferenceIdeal.Gen Cert.ReferenceIdeal.Value

/-- The word of a number below 32 reads as that number. -/
theorem small_word : ∀ a : Fin 32, (BitVec.ofNat 32 a.val).toInt = (a.val : ℤ) := by decide +kernel

/-- A point of the axis is its index over 31. -/
theorem axisA_at (a : Fin 32) : axisA (ix1 a) = (((a.val : ℝ) / 31 : ℝ) : EReal) := by
  have h0 : (id (constant (F := Ideal) S_ FTy.f32 0x00000000#32) ix0 : EReal) = 0 := Ideal.ofBits_zero_f32
  have h1 : (id (constant (F := Ideal) S_ FTy.f32 0x3F800000#32) ix0 : EReal) = 1 := Ideal.ofBits_one_f32
  have hf : (FloatOps.sitofp (F := Ideal) FTy.f32 (BitVec.ofNat 32 a.val) : EReal) = ((a.val : ℝ) : EReal) := by
    refine (congrArg (fun z : ℤ => (((z : ℝ) : EReal))) (small_word a)).trans ?_
    simp only [Int.cast_natCast]
  pointwise [axisA, stepA]
  rw [h0, h1, hf, Cert.Lit.w31, Spec.div_real _ (by norm_num)]
  split
  · rw [zero_mul, one_mul, zero_add]
  · rename_i h
    have : a.val = 31 := by have := a.isLt; omega
    rw [this]; norm_num

/-- First coordinate of a grid point. -/
theorem coordsA_0 (n : Fin 1024) : coordsA (ix2 n 0) = (Spec.gx n : EReal) := by
  pointwise [coordsA]
  rw [axisA_at]; rfl

/-- Second coordinate of a grid point. -/
theorem coordsA_1 (n : Fin 1024) : coordsA (ix2 n 1) = (Spec.gy n : EReal) := by
  pointwise [coordsA]
  rw [axisA_at]; rfl

/-- The distance of two grid points. -/
theorem distA_at (n m : Fin 1024) : distA (ix2 n m) = (Spec.dist n m : EReal) := by
  pointwise [distA, leftA, rightA]
  rw [Fin.sum_univ_two, coordsA_0, coordsA_0, coordsA_1, coordsA_1, ← EReal.coe_sub, ← EReal.coe_sub, ← EReal.coe_mul, ← EReal.coe_mul, ← EReal.coe_add,
    Ideal.sqrt_coe, if_neg (not_lt.mpr (add_nonneg (mul_self_nonneg _) (mul_self_nonneg _)))]
  rfl

/-- The mask of two grid points. -/
theorem maskA_at (n m : Fin 1024) : maskA (ix2 n m) = Spec.mask n m := by
  have e : maskA (ix2 n m) = (((BitVec.ofBool (decide ((distA (ix2 n m) : EReal) ≤ Ideal.ofBits .f32 0x3E4CCCCD#32))).toNat : ℝ) : EReal) := rfl
  rw [e, distA_at, Cert.Lit.wRadius]
  by_cases h : Spec.dist n m ≤ Spec.radius
  · rw [decide_eq_true (by exact_mod_cast h), Spec.mask, if_pos h, show (BitVec.ofBool true).toNat = 1 by decide]
    norm_num
  · rw [decide_eq_false (by exact_mod_cast h), Spec.mask, if_neg h, show (BitVec.ofBool false).toNat = 0 by decide]
    norm_num

/-- The radius net at a point. -/
theorem netA_at (Wh1 : FVec Ideal S32x2 .f32) (bh1 : FVec Ideal S32 .f32) (Wh2 : FVec Ideal S1x32 .f32) (bh2 : FVec Ideal S1 .f32) (n : Fin 1024) :
    netA Wh1 bh1 Wh2 bh2 (ix2 n 0) = Spec.radiusNet (fun k l => Wh1 (ix2 k l)) (fun k => bh1 (ix1 k)) (fun k => Wh2 (ix2 0 k)) (bh2 (ix1 0)) n := by
  pointwise [netA]
  simp only [Fin.sum_univ_two, coordsA_0, coordsA_1]
  rfl

/-- The clipped ratio at a pair. -/
theorem ratioA_at (u : FVec Ideal S1024x1 .f32) (n m : Fin 1024) :
    ratioA u (ix2 n m) = Spec.clip (Ideal.div (Spec.dist n m) (Spec.softplus (u (ix2 n 0)) + ((8796093 / 8796093022208 : ℝ) : EReal))) := by
  have h0 : (id (constant (F := Ideal) S_ FTy.f32 0x00000000#32) ix0 : EReal) = 0 := Ideal.ofBits_zero_f32
  have h1 : (id (constant (F := Ideal) S_ FTy.f32 0x3F800000#32) ix0 : EReal) = 1 := Ideal.ofBits_one_f32
  pointwise [ratioA, softplusA]
  rw [h0, h1, distA_at, if_neg (not_not.mpr rfl), Cert.Lit.wTiny]
  rfl

/-- The clamped word of a number below 32. -/
theorem clamp_word : ∀ z : Fin 32, IntOp.minsi 30#32 (IntOp.maxsi 0#32 (BitVec.ofInt 32 (z.val : ℤ))) = BitVec.ofNat 32 (min 30 z.val) := by decide +kernel

/-- The knot below a ratio of the unit interval. -/
theorem knotA_at (r : FVec Ideal S1024x1024 .f32) (n m : Fin 1024) (x : ℝ) (hr : r (ix2 n m) = (x : EReal)) (h0 : 0 ≤ x) (h1 : x ≤ 1) :
    knotA r (ix2 n m) = BitVec.ofNat 32 (Spec.knot x) := by
  have hx : 0 ≤ x * 31 := by positivity
  have hz : ⌊x * 31⌋₊ < 32 := (Nat.floor_lt hx).mpr (by norm_num; linarith)
  have hi : ⌊x * 31⌋ = ((⌊x * 31⌋₊ : ℕ) : ℤ) := (Int.natCast_floor_eq_floor hx).symm
  have hf : (FloatOps.fptosi (F := Ideal) (φ := .f32) 32 (Ideal.liftRound Int.floor ((x : EReal) * ((31 : ℝ) : EReal))) : BitVec 32) = BitVec.ofInt 32 ((⌊x * 31⌋₊ : ℕ) : ℤ) := by
    rw [← EReal.coe_mul, Ideal.liftRound_coe]
    refine congrArg (BitVec.ofInt 32) ?_
    rw [Ideal.toIntClamped_coe, if_pos (by rw [hi]; positivity), Int.floor_intCast, hi]
    norm_num
    omega
  pointwise [knotA]
  rw [hr, Cert.Lit.w31, hf]
  exact clamp_word ⟨_, hz⟩

/-- A number below 32 isn't counted from the end. -/
theorem wrap_word : ∀ k : Fin 32, (Scalar.select (IntOp.cmpi .slt (BitVec.ofNat 32 k.val) 0#32) (IntOp.addi (BitVec.ofNat 32 k.val) 32#32) (BitVec.ofNat 32 k.val)).toInt.toNat = k.val := by
  decide +kernel

/-- A table's entry at an index below 32. -/
theorem takeA_at (T : FVec Ideal S32 .f32) (q : IVec S1024x1024 32) (n m : Fin 1024) (k : ℕ) (hk : k < 32) (hq : q (ix2 n m) = BitVec.ofNat 32 k) :
    takeA T q (ix2 n m) = T (ix1 ⟨k, hk⟩) := by
  refine (ValueIdx.gather_take_apply (by norm_num) gather_S32_S1024x1024x1_S1024x1024_n_0_n_n_0_2_1_wf T _ (ix2 n m)).trans ?_
  refine congrArg T (congrArg ix1 (Fin.ext ?_))
  have hi : ValueIdx.takeIdx (ix2 n m) = (ix3 n m 0 : S1024x1024x1.Idx) := by
    funext a
    match a with
    | 0 => rfl
    | 1 => rfl
    | 2 => rfl
  have e : broadcastInDim S1024x1024x1 ![0, 1] bcast_S1024x1024_S1024x1024x1_0_1
      (select (cmpi .slt q (broadcastInDim S1024x1024 ![] bcast_S_S1024x1024 (constantI S_ 32 0#32)))
        (addi q (broadcastInDim S1024x1024 ![] bcast_S_S1024x1024 (constantI S_ 32 32#32))) q) (ValueIdx.takeIdx (ix2 n m))
      = Scalar.select (IntOp.cmpi .slt (q (ix2 n m)) 0#32) (IntOp.addi (q (ix2 n m)) 32#32) (q (ix2 n m)) := by
    rw [hi]
    pointwise
  refine (congrArg (fun b : BitVec 32 => min b.toInt.toNat 31) e).trans ?_
  rw [hq, wrap_word ⟨k, hk⟩]
  show min k 31 = k
  omega

/-- The word after a small one. -/
theorem next_word (k : ℕ) : IntOp.addi (BitVec.ofNat 32 k) 1#32 = BitVec.ofNat 32 (k + 1) := (BitVec.ofNat_add ..).symm

/-- The spline at a ratio of the unit interval is the interpolation. -/
theorem splineA_at (S : FVec Ideal S32 .f32) (r : FVec Ideal S1024x1024 .f32) (n m : Fin 1024) (x : ℝ) (hr : r (ix2 n m) = (x : EReal)) (h0 : 0 ≤ x) (h1 : x ≤ 1) :
    splineA S r (ix2 n m) = Spec.interp (Spec.table fun k => S (ix1 k)) x := by
  have hk : Spec.knot x ≤ 30 := min_le_left _ _
  have hq := knotA_at r n m x hr h0 h1
  have hn : nextA (knotA r) (ix2 n m) = BitVec.ofNat 32 (Spec.knot x + 1) := by
    pointwise [nextA]
    rw [hq]; exact next_word _
  have hd : ((((Spec.knot x + 1 : ℕ) : ℝ) / 31 - (Spec.knot x : ℝ) / 31 + Spec.eps : ℝ)) ≠ 0 := by
    have : (0 : ℝ) < Spec.eps := by norm_num [Spec.eps]
    have e : ((((Spec.knot x + 1 : ℕ) : ℝ) / 31 - (Spec.knot x : ℝ) / 31 : ℝ)) = 1 / 31 := by push_cast; ring
    rw [e]; positivity
  have hw : rightWeightA r (knotA r) (ix2 n m) = (Spec.rightW x : EReal) := by
    pointwise [rightWeightA]
    rw [takeA_at axisA _ n m _ (by omega) hq, takeA_at axisA _ n m _ (by omega) hn, axisA_at, axisA_at, hr, Cert.Lit.wEps,
      ← EReal.coe_sub, ← EReal.coe_sub, ← EReal.coe_add]
    exact Spec.div_real _ hd
  pointwise [splineA]
  rw [hw, takeA_at S _ n m _ (by omega) hq, takeA_at S _ n m _ (by omega) hn, Spec.interp, Spec.table, Spec.table, dif_pos (by omega), dif_pos (by omega)]

/-- The pair net at a pair. -/
theorem pairNetA_at (W1 : FVec Ideal S32x4 .f32) (b1 : FVec Ideal S32 .f32) (W2 : FVec Ideal S1x32 .f32) (b2 : FVec Ideal S1 .f32) (n m : Fin 1024) :
    pairNetA W1 b1 W2 b2 (ix2 n m) = Spec.phi (fun k l => W1 (ix2 k l)) (fun k => b1 (ix1 k)) (fun k => W2 (ix2 0 k)) (b2 (ix1 0)) n m := by
  have hl0 : leftA (ix3 n m 0) = (Spec.gx n : EReal) := by pointwise [leftA]; exact coordsA_0 n
  have hl1 : leftA (ix3 n m 1) = (Spec.gy n : EReal) := by pointwise [leftA]; exact coordsA_1 n
  have hr0 : rightA (ix3 n m 0) = (Spec.gx m : EReal) := by pointwise [rightA]; exact coordsA_0 m
  have hr1 : rightA (ix3 n m 1) = (Spec.gy m : EReal) := by pointwise [rightA]; exact coordsA_1 m
  pointwise [pairNetA]
  simp only [Fin.sum_univ_two, hl0, hl1, hr0, hr1, ← add_assoc]
  refine congrArg (· + _) (Finset.sum_congr rfl fun k _ => ?_)
  rw [mul_comm]
  rfl

/-- The reference's result at a point and a channel is the weighted mean over the grid. -/
theorem resultA_at (x : FVec Ideal S1x1024x64 .f32) (W1 : FVec Ideal S32x4 .f32) (b1 : FVec Ideal S32 .f32) (W2 : FVec Ideal S1x32 .f32) (b2 : FVec Ideal S1 .f32)
    (Wh1 : FVec Ideal S32x2 .f32) (bh1 : FVec Ideal S32 .f32) (Wh2 : FVec Ideal S1x32 .f32) (bh2 : FVec Ideal S1 .f32) (S : FVec Ideal S32 .f32) (n : Fin 1024) (c : Fin 64)
    (w z : ℕ → EReal) (hz : ∀ j : Fin 1024, z j = x (ix3 0 j c))
    (hw : ∀ j : Fin 1024, w j = pairNetA W1 b1 W2 b2 (ix2 n j) * maskA (ix2 n j) * (splineA S (ratioA (netA Wh1 bh1 Wh2 bh2)) (ix2 n j) * maskA (ix2 n j))) :
    resultA x W1 b1 W2 b2 Wh1 bh1 Wh2 bh2 S (ix2 n c) = Spec.mean n w z := by
  have hc : rowCountA (ix2 n 0) = (max (∑ j ∈ Finset.range 1024, Spec.mask n j) 1 : EReal) := by
    pointwise [rowCountA]
    simp only [maskA_at, Finset.sum_range]
  pointwise [resultA]
  rw [hc, Spec.mean, Finset.sum_range (fun j => w j * z j)]
  refine congrArg (Ideal.div · _) (Finset.sum_congr rfl fun j _ => ?_)
  rw [hw, hz, mul_comm]

end Cert.Ref

end
-- ==== Proof.Precondition.lean ====
/- The precondition: its facts, and what it says of the spline's table and of a pair within the radius. -/
module

public import proofs.«01_k».proof.Pre_clear_of_knots
public import proofs.«01_k».proof.Proof.RefAt
public import Idealize.ShloMosaic.Lib.Affine

@[expose] public section

set_option maxRecDepth 16384

noncomputable section

namespace Cert.Ref

open Idealize.ShloMosaic Cert.ReferenceIdeal Cert.ReferenceIdeal.Gen Cert.ReferenceIdeal.Value

/-- The shape relations that the precondition takes. -/
instance preFacts : Cert.Pre_clear_of_knots.Facts where
  bcast_S_S32 := by decide
  reducesTo_S32_S_d0 := by decide
  h_S_ := by decide
  bcast_S_S31 := by decide
  shapeCasts_S_S1 := by decide
  bcast_S1_S31_0 := by decide
  bcast_S_S1 := by decide
  concatenates_S31_S1_S32_d0 := by decide
  bcast_S32_S32x32_0 := by decide
  bcast_S32_S32x32_1 := by decide
  bcast_S32x32_S32x32x1_0_1 := by decide
  concatenates_S32x32x1_S32x32x1_S32x32x2_d2 := by decide
  shapeCasts_S32x32x2_S1024x2 := by decide
  bcast_S1024x2_S1024x1x2_0_2 := by decide
  bcast_S1024x2_S1x1024x2_1_2 := by decide
  bcast_S1024x1x2_S1024x1024x2_0_1_2 := by decide
  bcast_S1x1024x2_S1024x1024x2_0_1_2 := by decide
  reducesTo_S1024x1024x2_S1024x1024_d2 := by decide
  transposes_S32x2_S2x32_1_0 := by decide
  bcast_S32_S1x32_1 := by decide
  bcast_S1x32_S1024x32_0_1 := by decide
  bcast_S_S1024x32 := by decide
  transposes_S1x32_S32x1_1_0 := by decide
  bcast_S1_S1x1_1 := by decide
  bcast_S1x1_S1024x1_0_1 := by decide
  bcast_S_S1024x1 := by decide
  bcast_S1024x1_S1024x1024_0_1 := by decide
  bcast_S_S1024x1024 := by decide
  dot_S1024x2_S2x32_S1024x32_1_0_0_1_n_n_wf := by decide
  dot_S1024x32_S32x1_S1024x1_1_0_0_1_n_n_wf := by decide

/-- Whether an entry of the spline's table is finite. -/
def entryA (S : FVec Ideal S32 .f32) : IVec S32 1 := cmpf .olt (Host.absf S) (splat Cert.Pre_clear_of_knots.Facts.bcast_S_S32 0x7F800000#32)

/-- Whether the whole table is finite. -/
def finiteA (S : FVec Ideal S32 .f32) : IVec S_ 1 :=
  Host.reduce IntOp.andi (entryA S) (constantI S_ 1 1#1) Cert.Pre_clear_of_knots.Facts.reducesTo_S32_S_d0 Cert.Pre_clear_of_knots.Facts.h_S_

/-- The floor of 31 times a ratio. -/
def floorA (r : FVec Ideal S1024x1024 .f32) : FVec Ideal S1024x1024 .f32 := Host.floor (mulf r (splat bcast_S_S1024x1024 0x41F80000#32))

/-- Whether a pair is outside the radius, or its ratio clear of the inner knots. -/
def clearA (r : FVec Ideal S1024x1024 .f32) : IVec S1024x1024 1 :=
  ori (ori (ori (cmpf .ogt distA (splat bcast_S_S1024x1024 0x3E4CCCCD#32)) (cmpf .oeq (floorA r) (splat bcast_S_S1024x1024 0x00000000#32)))
      (cmpf .oeq (floorA r) (splat bcast_S_S1024x1024 0x41F80000#32)))
    (cmpf .oge (subf r (Host.divf (floorA r) (splat bcast_S_S1024x1024 0x41F80000#32))) (splat bcast_S_S1024x1024 0x322BCC77#32))

/-- The precondition is the table's finiteness and each pair's clearance. -/
theorem pre_eq (x : FVec Ideal S1x1024x64 .f32) (W1 : FVec Ideal S32x4 .f32) (b1 : FVec Ideal S32 .f32) (W2 : FVec Ideal S1x32 .f32) (b2 : FVec Ideal S1 .f32)
    (Wh1 : FVec Ideal S32x2 .f32) (bh1 : FVec Ideal S32 .f32) (Wh2 : FVec Ideal S1x32 .f32) (bh2 : FVec Ideal S1 .f32) (S : FVec Ideal S32 .f32) :
    Cert.Pre_clear_of_knots.fn (F := Ideal) x W1 b1 W2 b2 Wh1 bh1 Wh2 bh2 S
      = andi (broadcastInDim S1024x1024 ![] bcast_S_S1024x1024 (finiteA S)) (clearA (ratioA (netA Wh1 bh1 Wh2 bh2))) := rfl

/-- Two bits whose conjunction is one are one. -/
theorem and_bits : ∀ b z : BitVec 1, IntOp.andi b z = 1#1 → b = 1#1 ∧ z = 1#1 := by decide

/-- A conjunction of bits that is one has ones only. -/
theorem fold_and {ι : Type} (g : ι → BitVec 1) : ∀ (l : List ι) (b : BitVec 1), l.foldl (fun r n => IntOp.andi r (g n)) b = 1#1 → b = 1#1 ∧ ∀ n ∈ l, g n = 1#1
  | [], b, h => ⟨h, fun _ hn => absurd hn List.not_mem_nil⟩
  | a :: l, b, h => by
    obtain ⟨h1, h2⟩ := fold_and g l _ h
    obtain ⟨hb, ha⟩ := and_bits b (g a) h1
    exact ⟨hb, fun n hn => (List.mem_cons.mp hn).elim (fun e => e ▸ ha) (h2 n)⟩

/-- A finite table has real entries. -/
theorem finite_entry (S : FVec Ideal S32 .f32) (i : S_.Idx) (h : finiteA S i = 1#1) (k : Fin 32) : ∃ y : ℝ, (S (ix1 k) : EReal) = y := by
  have hk := (fold_and _ _ _ h).2 (S32.rowMajor (ix1 k)) (List.mem_filter.mpr ⟨List.mem_finRange _, decide_eq_true (funext fun a => a.elim0)⟩)
  rw [Equiv.symm_apply_apply] at hk
  have e : entryA S (ix1 k) = BitVec.ofBool (decide ((max (S (ix1 k)) (-(S (ix1 k))) : EReal) < Ideal.ofBits .f32 0x7F800000#32)) := rfl
  rw [e, Cert.Lit.wInf] at hk
  have hl : (max (S (ix1 k)) (-(S (ix1 k))) : EReal) < ⊤ := by
    by_contra hc
    rw [decide_eq_false hc] at hk
    exact absurd hk (by decide)
  obtain ⟨h1, h2⟩ := max_lt_iff.mp hl
  refine ⟨EReal.toReal (S (ix1 k)), (EReal.coe_toReal h1.ne ?_).symm⟩
  intro hb
  rw [hb] at h2
  exact absurd h2 (by simp)

/-- A pair within the radius has a ratio clear of the inner knots. -/
theorem clear_pair (r : FVec Ideal S1024x1024 .f32) (n m : Fin 1024) (h : clearA r (ix2 n m) = 1#1) (x : ℝ) (hr : r (ix2 n m) = (x : EReal)) (h0 : 0 ≤ x) (h1 : x ≤ 1)
    (hd : Spec.dist n m ≤ Spec.radius) : Spec.knot x = 0 ∨ Spec.eps ≤ x - (Spec.knot x : ℝ) / 31 := by
  have hx : 0 ≤ x * 31 := by positivity
  have hi : ⌊x * 31⌋ = ((⌊x * 31⌋₊ : ℕ) : ℤ) := (Int.natCast_floor_eq_floor hx).symm
  have hf : (floorA r (ix2 n m) : EReal) = (((⌊x * 31⌋₊ : ℕ) : ℝ) : EReal) := by
    pointwise [floorA]
    rw [hr, Cert.Lit.w31, ← EReal.coe_mul, Ideal.liftRound_coe, hi, Int.cast_natCast]
  have e : clearA r (ix2 n m) = IntOp.ori (IntOp.ori (IntOp.ori
      (BitVec.ofBool (decide (Ideal.ofBits .f32 0x3E4CCCCD#32 < (distA (ix2 n m) : EReal))))
      (BitVec.ofBool (decide ((floorA r (ix2 n m) : EReal) = Ideal.ofBits .f32 0x00000000#32))))
      (BitVec.ofBool (decide ((floorA r (ix2 n m) : EReal) = Ideal.ofBits .f32 0x41F80000#32))))
      (BitVec.ofBool (decide (Ideal.ofBits .f32 0x322BCC77#32 ≤ (r (ix2 n m) : EReal) - Ideal.div (floorA r (ix2 n m)) (Ideal.ofBits .f32 0x41F80000#32)))) := rfl
  rw [e, hf, hr, distA_at, Cert.Lit.wRadius, Cert.Lit.wEps, Cert.Lit.w31, Ideal.ofBits_zero_f32, Spec.div_real _ (by norm_num : (31 : ℝ) ≠ 0), ← EReal.coe_sub,
    decide_eq_false (by exact_mod_cast not_lt.mpr hd)] at h
  have hk : (Spec.knot x : ℝ) ≤ (⌊x * 31⌋₊ : ℕ) := by exact_mod_cast min_le_right 30 ⌊x * 31⌋₊
  by_cases c0 : ⌊x * 31⌋₊ = 0
  · left; simp [Spec.knot, c0]
  right
  by_cases c1 : ⌊x * 31⌋₊ = 31
  · have : (Spec.knot x : ℝ) = 30 := by simp [Spec.knot, c1]
    have hl := Nat.floor_le hx
    rw [c1] at hl
    push_cast at hl
    rw [this, Spec.eps]
    norm_num
    linarith
  rw [decide_eq_false (by exact_mod_cast c0), decide_eq_false (by exact_mod_cast c1)] at h
  have hl : Spec.eps ≤ x - ((⌊x * 31⌋₊ : ℕ) : ℝ) / 31 := by
    by_contra hc
    rw [decide_eq_false (by exact_mod_cast hc)] at h
    exact absurd h (by decide)
  linarith

end Cert.Ref

end
-- ==== Proof.KernelBlock.lean ====
/- The kernel's body at one grid point, in the shape of the algorithm: the coordinates of the tile's points and of a
   slab's points, the pair net as a fold over its hidden units, the spline as a fold over its ramps, a slab's
   contribution, the five slabs and the division. -/
module

public import proofs.«01_k».proof.Proof.Gen.KernelIdeal.Value
public import Idealize.ShloMosaic.Lib.Pipeline.ValueKit
public import Idealize.ShloMosaic.Lib.Pointwise

@[expose] public section

set_option maxRecDepth 65536

noncomputable section

namespace Cert.Block

open Idealize.ShloMosaic Cert.KernelIdeal Cert.KernelIdeal.Gen Cert.KernelIdeal.Value Idealize.ShloMosaic.TcCoe Idealize.SL.Sem

/-- A square of 128 by 128 numbers, one per pair of a tile's point and a slab's point. -/
abbrev Sq := FVec Ideal S128x128 .f32

/-- One constant at every pair. -/
abbrev flat (a : Ideal .f32) : Sq := broadcast S128x128 a

/-- The constant `k / 31`, spelt zero at `k = 0`. -/
def knotC : ℕ → Ideal .f32
  | 0 => Scalar.ofBits .f32 0x00000000#32
  | k + 1 => ((((k + 1 : ℕ) : ℝ) / 31 : ℝ) : EReal)

/-- The constant by which a ramp is steep. -/
def steepC : Ideal .f32 := Named.named κ "inv_dt" (φ := .f32) 0x41F7FFFB#32

/-- One entry of a table of 32 numbers lies inside it. -/
theorem inb1 (k : ℕ) (h : k < 32) : ∀ a, (![k] : Fin 1 → ℕ) a + (![1] : Fin 1 → ℕ) a ≤ S32.size a :=
  Fin.forall_fin_one.mpr h

/-- One entry of a table of 32 by 4 numbers lies inside it. -/
theorem inb2 (k l : ℕ) (h : k < 32 ∧ l < 4) : ∀ a, (![k, l] : Fin 2 → ℕ) a + (![1, 1] : Fin 2 → ℕ) a ≤ S32x4.size a :=
  Fin.forall_fin_two.mpr h

/-- An entry of a table of 32 numbers. -/
def rd1 (v : Vec Ideal S32 .f32) (k : ℕ) : Ideal .f32 :=
  if h : k < 32 then View.ld v (Rect.unit (s := S32) ![k] ![1] (inb1 k h)) (Shape.Idx.first Nat.one_pos) else Scalar.ofBits .f32 0x00000000#32

/-- The entry of a table of one number. -/
def rd0 (v : Vec Ideal S1 .f32) : Ideal .f32 :=
  View.ld v (Rect.unit (s := S1) ![0] ![1] (Fin.forall_fin_one.mpr (Nat.le_refl 1))) (Shape.Idx.first Nat.one_pos)

/-- An entry of a table of 32 by 4 numbers. -/
def rd2 (v : Vec Ideal S32x4 .f32) (k l : ℕ) : Ideal .f32 :=
  if h : k < 32 ∧ l < 4 then View.ld v (Rect.unit (s := S32x4) ![k, l] ![1, 1] (inb2 k l h)) (Shape.Idx.first Nat.one_pos) else Scalar.ofBits .f32 0x00000000#32

/-- Indices of the tile's points. -/
abbrev rowsI (i : grid0.Coords) : IVec S128x128 32 :=
  addi (iota .tc S128x128 32 [0] iota_S128x128_d0_w32) (broadcast S128x128 (Scalar.muli (BitVec.ofNat 32 (i 0).val) 128#32))

/-- Word of the first point of the band. -/
abbrev baseW (i : grid0.Coords) : BitVec 32 :=
  Scalar.muli (Scalar.minsi 3#32 (Scalar.maxsi 0#32 (Scalar.subi (BitVec.ofNat 32 (i 0).val) 2#32))) 128#32

/-- Indices of a slab's points. -/
abbrev colsI (b : BitVec 32) : IVec S128x128 32 :=
  addi (iota .tc S128x128 32 [1] iota_S128x128_d1_w32) (broadcast S128x128 b)

/-- First coordinate of the points of an index square. -/
abbrev firstC (p : IVec S128x128 32) : Sq := mulf (sitofp .f32 (shrsi p (broadcast S128x128 5#32))) (flat (knotC 1))

/-- Second coordinate of the points of an index square. -/
abbrev secondC (p : IVec S128x128 32) : Sq := mulf (sitofp .f32 (andi p (broadcast S128x128 31#32))) (flat (knotC 1))

/-- Distances of the pairs. -/
abbrev distB (p q : IVec S128x128 32) : Sq :=
  sqrt (addf (mulf (subf (firstC p) (firstC q)) (subf (firstC p) (firstC q))) (mulf (subf (secondC p) (secondC q)) (subf (secondC p) (secondC q))))

/-- One where a distance is within the radius. -/
abbrev maskB (d : Sq) : Sq := sitofp .f32 (extui 32 (cmpf .ole d (flat (Scalar.ofBits .f32 0x3E4CCCCD#32))) natLt_1_32)

/-- One hidden unit of the pair net, after its rectifier. -/
abbrev unitB (p q : IVec S128x128 32) (w1 : ℕ → ℕ → Ideal .f32) (b1 : ℕ → Ideal .f32) (k : ℕ) : Sq :=
  maximumf (addf (addf (addf (addf (mulf (firstC p) (flat (w1 k 0))) (mulf (secondC p) (flat (w1 k 1)))) (mulf (firstC q) (flat (w1 k 2))))
    (mulf (secondC q) (flat (w1 k 3)))) (flat (b1 k))) (flat (Scalar.ofBits .f32 0x00000000#32))

/-- The pair net's sum over its first hidden units. -/
def netB (p q : IVec S128x128 32) (w1 : ℕ → ℕ → Ideal .f32) (b1 w2 : ℕ → Ideal .f32) : ℕ → Sq
  | 0 => flat (Scalar.ofBits .f32 0x00000000#32)
  | k + 1 => addf (netB p q w1 b1 w2 k) (mulf (flat (w2 k)) (unitB p q w1 b1 k))

/-- The reciprocal radius, refined by one Newton step. -/
abbrev recipB (h : FVec Ideal S128x1 .f32) : FVec Ideal S128x1 .f32 :=
  mulf (divf (broadcast S128x1 (Scalar.ofBits .f32 0x3F800000#32)) (addf (shapeCast S128x1 h shapeCasts_S128x1_S128x1) (broadcast S128x1 (Scalar.ofBits .f32 0x358637BD#32))))
    (subf (broadcast S128x1 (Scalar.ofBits .f32 0x40000000#32))
      (mulf (addf (shapeCast S128x1 h shapeCasts_S128x1_S128x1) (broadcast S128x1 (Scalar.ofBits .f32 0x358637BD#32)))
        (divf (broadcast S128x1 (Scalar.ofBits .f32 0x3F800000#32)) (addf (shapeCast S128x1 h shapeCasts_S128x1_S128x1) (broadcast S128x1 (Scalar.ofBits .f32 0x358637BD#32))))))

/-- An array clipped to the unit interval. -/
abbrev clipB (v : Sq) : Sq := minimumf (flat (Scalar.ofBits .f32 0x3F800000#32)) (maximumf (flat (Scalar.ofBits .f32 0x00000000#32)) v)

/-- Scaled distances, clipped. -/
abbrev ratioB (d : Sq) (h : FVec Ideal S128x1 .f32) : Sq := clipB (mulf d (broadcastTo S128x128 (recipB h) broadcasts_S128x1_S128x128))

/-- The spline's sum over its first ramps. -/
def splineB (r : Sq) (s : ℕ → Ideal .f32) : ℕ → Sq
  | 0 => addf (flat (Scalar.ofBits .f32 0x00000000#32)) (flat (s 0))
  | k + 1 => addf (splineB r s k) (mulf (flat (Scalar.subf (s (k + 1)) (s k))) (clipB (mulf (subf r (flat (knotC k))) (flat steepC))))

/-- The weights of the pairs of one slab. -/
abbrev weightB (p q : IVec S128x128 32) (h : FVec Ideal S128x1 .f32) (w1 : ℕ → ℕ → Ideal .f32) (b1 w2 : ℕ → Ideal .f32) (b2 : Ideal .f32) (s : ℕ → Ideal .f32) : Sq :=
  mulf (mulf (addf (netB p q w1 b1 w2 32) (flat b2)) (splineB (ratioB (distB p q) h) s 31)) (maskB (distB p q))

/-- One more slab's weights times its values. -/
abbrev accB (a : FVec Ideal S128x64 .f32) (w : Sq) (x : FVec Ideal S128x64 .f32) : FVec Ideal S128x64 .f32 :=
  addf a (matmul dot_S128x128_S128x64_S128x64_1_0_0_1_n_n none (truncf .bf16 w bitsLt_bf16_f32)
    (truncf .bf16 (shapeCast S128x64 x shapeCasts_S128x64_S128x64) bitsLt_bf16_f32) (constant S128x64 .f32 0x00000000#32))

/-- One more slab's count of pairs within the radius. -/
abbrev cntB (n : FVec Ideal S128x1 .f32) (k : Sq) : FVec Ideal S128x1 .f32 :=
  addf n (shapeCast S128x1 (multiReduction .add [1] S128 k 0x00000000#32 reduces_S128x128_S128 (.inl rfl) rfl) shapeCasts_S128_S128x1)

/-- Word of the first point of a slab. -/
abbrev slabW (i : grid0.Coords) (s : ℕ) : BitVec 32 := Scalar.addi (baseW i) (BitVec.ofNat 32 (128 * s))

/-- The values of a slab's points. -/
abbrev slabX (x : Vec Ideal S1024x64 .f32) (i : grid0.Coords) (s : Fin 5) : Vec Ideal S128x64 .f32 :=
  View.ld x (Rect.unit (s := S1024x64) (k0_off1 i (BitVec.ofNat 32 (128 * s.val))) S128x64.size (k0_off1_inb i s))

/-- The body's output at one grid point. -/
abbrev outB (i : grid0.Coords) (x : Vec Ideal S1024x64 .f32) (h : Vec Ideal S128x1 .f32) (w1 : Vec Ideal S32x4 .f32) (b1 w2 : Vec Ideal S32 .f32) (b2 : Vec Ideal S1 .f32)
    (s : Vec Ideal S32 .f32) : FVec Ideal S128x64 .f32 :=
  let w := fun k : ℕ => weightB (rowsI i) (colsI (slabW i k)) h (rd2 w1) (rd1 b1) (rd1 w2) (rd0 b2) (rd1 s)
  let k := fun k : ℕ => maskB (distB (rowsI i) (colsI (slabW i k)))
  divf (accB (accB (accB (accB (accB (broadcast S128x64 (Scalar.ofBits .f32 0x00000000#32)) (w 0) (slabX x i 0)) (w 1) (slabX x i 1)) (w 2) (slabX x i 2)) (w 3) (slabX x i 3)) (w 4) (slabX x i 4))
    (broadcastTo S128x64 (maximumf (cntB (cntB (cntB (cntB (cntB (broadcast S128x1 (Scalar.ofBits .f32 0x00000000#32)) (k 0)) (k 1)) (k 2)) (k 3)) (k 4))
      (broadcast S128x1 (Scalar.ofBits .f32 0x3F800000#32))) broadcasts_S128x1_S128x64)

/-- An entry of a table of 32 by 4 numbers, at an index. -/
theorem rd2_eq (v : Vec Ideal S32x4 .f32) (k : Fin 32) (l : Fin 4) : rd2 v k l = v (ix2 k l) := by
  rw [rd2, dif_pos ⟨k.isLt, l.isLt⟩]
  exact congrArg v (by funext a; apply Fin.ext; match a with | 0 => simp [Shape.Idx.first, ix2] | 1 => simp [Shape.Idx.first, ix2])

/-- An entry of a table of 32 numbers, at an index. -/
theorem rd1_eq (v : Vec Ideal S32 .f32) (k : Fin 32) : rd1 v k = v (ix1 k) := by
  rw [rd1, dif_pos k.isLt]
  exact congrArg v (by funext a; apply Fin.ext; match a with | 0 => simp [Shape.Idx.first, ix1])

/-- The entry of a table of one number, at its index. -/
theorem rd0_eq (v : Vec Ideal S1 .f32) : rd0 v = v (ix1 0) :=
  congrArg v (by funext a; apply Fin.ext; match a with | 0 => simp [Shape.Idx.first, ix1])

/-- The first knot is spelt zero. -/
theorem knotC_zero : knotC 0 = Scalar.ofBits .f32 0x00000000#32 := rfl

/-- The named constants are the quotients `k / 31`. -/
theorem named_knots :
    Named.named (F := Ideal) κ "k1" (φ := .f32) 0x3D042108#32 = knotC 1 ∧
    Named.named (F := Ideal) κ "k2" (φ := .f32) 0x3D842108#32 = knotC 2 ∧
    Named.named (F := Ideal) κ "k3" (φ := .f32) 0x3DC6318C#32 = knotC 3 ∧
    Named.named (F := Ideal) κ "k4" (φ := .f32) 0x3E042108#32 = knotC 4 ∧
    Named.named (F := Ideal) κ "k5" (φ := .f32) 0x3E25294A#32 = knotC 5 ∧
    Named.named (F := Ideal) κ "k6" (φ := .f32) 0x3E46318C#32 = knotC 6 ∧
    Named.named (F := Ideal) κ "k7" (φ := .f32) 0x3E6739CE#32 = knotC 7 ∧
    Named.named (F := Ideal) κ "k8" (φ := .f32) 0x3E842108#32 = knotC 8 ∧
    Named.named (F := Ideal) κ "k9" (φ := .f32) 0x3E94A529#32 = knotC 9 ∧
    Named.named (F := Ideal) κ "k10" (φ := .f32) 0x3EA5294A#32 = knotC 10 ∧
    Named.named (F := Ideal) κ "k11" (φ := .f32) 0x3EB5AD6B#32 = knotC 11 ∧
    Named.named (F := Ideal) κ "k12" (φ := .f32) 0x3EC6318C#32 = knotC 12 ∧
    Named.named (F := Ideal) κ "k13" (φ := .f32) 0x3ED6B5AD#32 = knotC 13 ∧
    Named.named (F := Ideal) κ "k14" (φ := .f32) 0x3EE739CE#32 = knotC 14 ∧
    Named.named (F := Ideal) κ "k15" (φ := .f32) 0x3EF7BDEF#32 = knotC 15 ∧
    Named.named (F := Ideal) κ "k16" (φ := .f32) 0x3F042108#32 = knotC 16 ∧
    Named.named (F := Ideal) κ "k17" (φ := .f32) 0x3F0C6319#32 = knotC 17 ∧
    Named.named (F := Ideal) κ "k18" (φ := .f32) 0x3F14A529#32 = knotC 18 ∧
    Named.named (F := Ideal) κ "k19" (φ := .f32) 0x3F1CE73A#32 = knotC 19 ∧
    Named.named (F := Ideal) κ "k20" (φ := .f32) 0x3F25294A#32 = knotC 20 ∧
    Named.named (F := Ideal) κ "k21" (φ := .f32) 0x3F2D6B5B#32 = knotC 21 ∧
    Named.named (F := Ideal) κ "k22" (φ := .f32) 0x3F35AD6B#32 = knotC 22 ∧
    Named.named (F := Ideal) κ "k23" (φ := .f32) 0x3F3DEF7C#32 = knotC 23 ∧
    Named.named (F := Ideal) κ "k24" (φ := .f32) 0x3F46318C#32 = knotC 24 ∧
    Named.named (F := Ideal) κ "k25" (φ := .f32) 0x3F4E739D#32 = knotC 25 ∧
    Named.named (F := Ideal) κ "k26" (φ := .f32) 0x3F56B5AD#32 = knotC 26 ∧
    Named.named (F := Ideal) κ "k27" (φ := .f32) 0x3F5EF7BE#32 = knotC 27 ∧
    Named.named (F := Ideal) κ "k28" (φ := .f32) 0x3F6739CE#32 = knotC 28 ∧
    Named.named (F := Ideal) κ "k29" (φ := .f32) 0x3F6F7BDF#32 = knotC 29 ∧
    Named.named (F := Ideal) κ "k30" (φ := .f32) 0x3F77BDEF#32 = knotC 30 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [knotC]; norm_num; rfl)

variable (m : (ℓ : Loc nD τ sig) → Buf (Elt Ideal) ℓ)

set_option maxHeartbeats 1000000 in
/-- The body's output at a grid point is the algorithm's, of the blocks the point is given. -/
theorem outs_of (c : Dev nD) (t : Fin cfg0.N) (y) (x : Vec Ideal S1024x64 .f32) (h : Vec Ideal S128x1 .f32) (w1 : Vec Ideal S32x4 .f32) (b1 w2 : Vec Ideal S32 .f32) (b2 : Vec Ideal S1 .f32)
    (s : Vec Ideal S32 .f32) (h0 : iblk m c 0 t = x) (h1 : iblk m c 1 t = h) (h2 : iblk m c 2 t = w1) (h3 : iblk m c 3 t = b1) (h4 : iblk m c 4 t = w2) (h5 : iblk m c 5 t = b2) (h6 : iblk m c 6 t = s) :
    outsAt0 m c t y = outB (grid0.coords t) x h w1 b1 w2 b2 s y := by
  unfold outsAt0
  frame_out
  simp only [h0, h1, h2, h3, h4, h5, h6]
  clear h0 h1 h2 h3 h4 h5 h6
  unfold_payloads
  simp only [named_knots, netB, splineB, outB, accB, cntB, weightB, unitB, maskB, distB, firstC, secondC, ratioB, clipB, recipB, rowsI, colsI, slabW, baseW, slabX, flat,
    knotC_zero, steepC, rd0, rd1, rd2, Nat.reduceAdd, Nat.reduceMul, Nat.mul_zero, Nat.reduceLT, and_self, ↓reduceDIte, zero_add, Nat.zero_lt_succ, Nat.one_lt_ofNat]
  rfl

end Cert.Block

end
-- ==== Proof.KernelAt.lean ====
/- The body's output at one point and one channel, read down to the mathematics: sums over the tile's band. -/
module

public import proofs.«01_k».proof.Proof.KernelBlock
public import proofs.«01_k».proof.Proof.Consts
public import proofs.«01_k».proof.Proof.Spec

@[expose] public section

set_option maxRecDepth 16384

noncomputable section

namespace Cert.Block

open Idealize.ShloMosaic Cert.KernelIdeal Cert.KernelIdeal.Gen Cert.KernelIdeal.Value

/-- The pair net's fold at a pair is the sum over its hidden units. -/
theorem netB_at (p q : IVec S128x128 32) (w1 : ℕ → ℕ → Ideal .f32) (b1 w2 : ℕ → Ideal .f32) (r j : Fin 128) (n : ℕ) :
    netB p q w1 b1 w2 n (ix2 r j) = (∑ k ∈ Finset.range n, w2 k * max (firstC p (ix2 r j) * w1 k 0 + secondC p (ix2 r j) * w1 k 1
      + firstC q (ix2 r j) * w1 k 2 + secondC q (ix2 r j) * w1 k 3 + b1 k) 0 : EReal) := by
  induction n with
  | zero => pointwise [netB]; simp
  | succ n ih =>
    rw [Finset.sum_range_succ, ← ih]
    pointwise [netB]

/-- The spline's fold at a pair is its first value plus the sum over its ramps. -/
theorem splineB_at (v : Sq) (s : ℕ → Ideal .f32) (r j : Fin 128) (n : ℕ) :
    splineB v s n (ix2 r j) = (s 0 + ∑ k ∈ Finset.range n, (s (k + 1) - s k) * min 1 (max 0 ((v (ix2 r j) - knotC k) * steepC)) : EReal) := by
  induction n with
  | zero => pointwise [splineB]; simp
  | succ n ih =>
    rw [Finset.sum_range_succ, ← add_assoc, ← ih]
    pointwise [splineB]

/-- A knot's constant is its quotient. -/
theorem knotC_eq (k : ℕ) : knotC k = (((k : ℝ) / 31 : ℝ) : EReal) := by
  cases k with
  | zero => rw [knotC_zero]; exact (Ideal.ofBits_zero_f32).trans (by simp)
  | succ k => rfl

/-- The steepness is the reciprocal of a knot's spacing with the small number added. -/
theorem steepC_eq : steepC = ((1 / (1 / 31 + Spec.eps) : ℝ) : EReal) := by
  have h : steepC = ((34902897112121344 / 1125900255871593 : ℝ) : EReal) := rfl
  rw [h]; norm_num [Spec.eps]

/-- A grid index's row. -/
theorem row_word : ∀ n : Fin 1024, (IntOp.shrsi .vector (BitVec.ofNat 32 n) 5#32).toInt = ((n.val / 32 : ℕ) : ℤ) := by decide +kernel

/-- A grid index's column. -/
theorem col_word : ∀ n : Fin 1024, (IntOp.andi (BitVec.ofNat 32 n) 31#32).toInt = ((n.val % 32 : ℕ) : ℤ) := by decide +kernel

/-- The word of a slab's first point. -/
theorem slab_word : ∀ (i : grid0.Coords) (s : Fin 5), slabW i s = BitVec.ofNat 32 (128 * (Spec.band (i 0).val + s.val)) := by decide +kernel

/-- The word of a tile's first point. -/
theorem tile_word : ∀ i : grid0.Coords, Scalar.muli (BitVec.ofNat 32 (i 0).val) 128#32 = BitVec.ofNat 32 (128 * (i 0).val) := by decide +kernel

/-- The first coordinate at a grid index. -/
theorem firstC_at (p : IVec S128x128 32) (y : S128x128.Idx) (n : ℕ) (hn : n < 1024) (hp : p y = BitVec.ofNat 32 n) : firstC p y = (Spec.gx n : EReal) := by
  pointwise
  rw [hp, knotC_eq]
  refine (congrArg (fun z : ℤ => (((z : ℝ) : EReal)) * ((((1 : ℕ) : ℝ) / 31 : ℝ) : EReal)) (row_word ⟨n, hn⟩)).trans ?_
  rw [← EReal.coe_mul]
  congr 1
  simp only [Spec.gx, Int.cast_natCast, Nat.cast_one]; ring

/-- The second coordinate at a grid index. -/
theorem secondC_at (p : IVec S128x128 32) (y : S128x128.Idx) (n : ℕ) (hn : n < 1024) (hp : p y = BitVec.ofNat 32 n) : secondC p y = (Spec.gy n : EReal) := by
  pointwise
  rw [hp, knotC_eq]
  refine (congrArg (fun z : ℤ => (((z : ℝ) : EReal)) * ((((1 : ℕ) : ℝ) / 31 : ℝ) : EReal)) (col_word ⟨n, hn⟩)).trans ?_
  rw [← EReal.coe_mul]
  congr 1
  simp only [Spec.gy, Int.cast_natCast, Nat.cast_one]; ring

/-- The index of a tile's point. -/
theorem rowsI_at (i : grid0.Coords) (r j : Fin 128) : rowsI i (ix2 r j) = BitVec.ofNat 32 (128 * (i 0).val + r.val) := by
  pointwise
  rw [tile_word, add_comm (128 * _), BitVec.ofNat_add]; rfl

/-- The index of a slab's point. -/
theorem colsI_at (i : grid0.Coords) (s : Fin 5) (r j : Fin 128) : colsI (slabW i s) (ix2 r j) = BitVec.ofNat 32 (128 * (Spec.band (i 0).val + s.val) + j.val) := by
  pointwise
  rw [slab_word, add_comm (128 * _), BitVec.ofNat_add]; rfl

/-- A distance at two grid indices. -/
theorem distB_at (p q : IVec S128x128 32) (y : S128x128.Idx) (n m : ℕ) (hn : n < 1024) (hm : m < 1024) (hp : p y = BitVec.ofNat 32 n) (hq : q y = BitVec.ofNat 32 m) :
    distB p q y = (Spec.dist n m : EReal) := by
  have e : distB p q y = Ideal.sqrt ((firstC p y - firstC q y) * (firstC p y - firstC q y) + (secondC p y - secondC q y) * (secondC p y - secondC q y) : EReal) := rfl
  rw [e, firstC_at p y n hn hp, firstC_at q y m hm hq, secondC_at p y n hn hp, secondC_at q y m hm hq,
    ← EReal.coe_sub, ← EReal.coe_sub, ← EReal.coe_mul, ← EReal.coe_mul, ← EReal.coe_add, Ideal.sqrt_coe, if_neg (not_lt.mpr (add_nonneg (mul_self_nonneg _) (mul_self_nonneg _)))]
  rfl

/-- The mask of a distance. -/
theorem maskB_at (d : Sq) (y : S128x128.Idx) (n m : ℕ) (hd : d y = (Spec.dist n m : EReal)) : maskB d y = Spec.mask n m := by
  have e : maskB d y = (((BitVec.setWidth 32 (BitVec.ofBool (decide ((d y : EReal) ≤ Ideal.ofBits .f32 0x3E4CCCCD#32)))).toInt : ℝ) : EReal) := rfl
  rw [e, hd, Cert.Lit.wRadius]
  by_cases h : Spec.dist n m ≤ Spec.radius
  · rw [decide_eq_true (by exact_mod_cast h), Spec.mask, if_pos h, show (BitVec.setWidth 32 (BitVec.ofBool true)).toInt = 1 by decide]
    norm_num
  · rw [decide_eq_false (by exact_mod_cast h), Spec.mask, if_neg h, show (BitVec.setWidth 32 (BitVec.ofBool false)).toInt = 0 by decide]
    norm_num

/-- The refined reciprocal at a point. -/
theorem recipB_at (h : FVec Ideal S128x1 .f32) (r : Fin 128) :
    recipB h (ix2 r 0) = (Ideal.div 1 (h (ix2 r 0) + ((8796093 / 8796093022208 : ℝ) : EReal))
      * (2 - (h (ix2 r 0) + ((8796093 / 8796093022208 : ℝ) : EReal)) * Ideal.div 1 (h (ix2 r 0) + ((8796093 / 8796093022208 : ℝ) : EReal))) : EReal) := by
  rw [← Cert.Lit.wTiny, show (2 : EReal) = Ideal.ofBits .f32 0x40000000#32 from Cert.Lit.w2.symm]
  pointwise

/-- The clipped ratio at a pair. -/
theorem ratioB_at (d : Sq) (h : FVec Ideal S128x1 .f32) (r j : Fin 128) (n m : ℕ) (hd : d (ix2 r j) = (Spec.dist n m : EReal)) (hh : (0 : EReal) ≤ h (ix2 r 0)) :
    ratioB d h (ix2 r j) = Spec.clip (Ideal.div (Spec.dist n m) (h (ix2 r 0) + ((8796093 / 8796093022208 : ℝ) : EReal))) := by
  have hp : (0 : EReal) < h (ix2 r 0) + ((8796093 / 8796093022208 : ℝ) : EReal) :=
    lt_of_lt_of_le (by exact_mod_cast (by norm_num : (0 : ℝ) < 8796093 / 8796093022208)) (le_add_of_nonneg_left hh)
  rw [← Spec.recip_refined _ hp, ← recipB_at h r, ← hd, Spec.clip]
  pointwise

/-- A slab's weight at a pair. -/
theorem weightB_at (i : grid0.Coords) (s : Fin 5) (h : FVec Ideal S128x1 .f32) (w1 : Vec Ideal S32x4 .f32) (b1 w2 : Vec Ideal S32 .f32) (b2 : Vec Ideal S1 .f32)
    (v : Vec Ideal S32 .f32) (r j : Fin 128) (hh : (0 : EReal) ≤ h (ix2 r 0)) (n m : ℕ) (hn : n = 128 * (i 0).val + r.val) (hm : m = 128 * (Spec.band (i 0).val + s.val) + j.val) :
    weightB (rowsI i) (colsI (slabW i s)) h (rd2 w1) (rd1 b1) (rd1 w2) (rd0 b2) (rd1 v) (ix2 r j)
      = (Spec.phi (fun k l => w1 (ix2 k l)) (fun k => b1 (ix1 k)) (fun k => w2 (ix1 k)) (b2 (ix1 0)) n m
        * Spec.ramps (rd1 v) (Spec.clip (Ideal.div (Spec.dist n m) (h (ix2 r 0) + ((8796093 / 8796093022208 : ℝ) : EReal)))) * Spec.mask n m : EReal) := by
  have h8 : (i 0).val < 8 := (i 0).isLt
  have hb : Spec.band (i 0).val ≤ 3 := min_le_left _ _
  have hn' : n < 1024 := by omega
  have hm' : m < 1024 := by omega
  have hp := (rowsI_at i r j).trans (congrArg (BitVec.ofNat 32) hn.symm)
  have hq := (colsI_at i s r j).trans (congrArg (BitVec.ofNat 32) hm.symm)
  have hd := distB_at _ _ _ n m hn' hm' hp hq
  have e : weightB (rowsI i) (colsI (slabW i s)) h (rd2 w1) (rd1 b1) (rd1 w2) (rd0 b2) (rd1 v) (ix2 r j)
      = ((netB (rowsI i) (colsI (slabW i s)) (rd2 w1) (rd1 b1) (rd1 w2) 32 (ix2 r j) + rd0 b2)
        * splineB (ratioB (distB (rowsI i) (colsI (slabW i s))) h) (rd1 v) 31 (ix2 r j) * maskB (distB (rowsI i) (colsI (slabW i s))) (ix2 r j) : EReal) := rfl
  rw [e, netB_at, splineB_at, maskB_at _ _ n m hd, ratioB_at _ _ _ _ n m hd hh, firstC_at _ _ n hn' hp, firstC_at _ _ m hm' hq, secondC_at _ _ n hn' hp,
    secondC_at _ _ m hm' hq, rd0_eq, Spec.phi, Spec.ramps, Finset.sum_range]
  simp only [knotC_eq, steepC_eq, Spec.clip, Spec.hidden, rd1_eq]
  simp only [← rd2_eq]
  rfl

/-- The mask of a slab at a pair. -/
theorem slab_mask (i : grid0.Coords) (s : Fin 5) (r j : Fin 128) :
    maskB (distB (rowsI i) (colsI (slabW i s))) (ix2 r j) = Spec.mask (128 * (i 0).val + r.val) (128 * (Spec.band (i 0).val + s.val) + j.val) := by
  have h8 : (i 0).val < 8 := (i 0).isLt
  have hb : Spec.band (i 0).val ≤ 3 := min_le_left _ _
  exact maskB_at _ _ _ _ (distB_at _ _ _ _ _ (by omega) (by omega) (rowsI_at i r j) (colsI_at i s r j))

/-- One more slab's weighted values at a point and a channel. -/
theorem accB_at (a : FVec Ideal S128x64 .f32) (w : Sq) (x : FVec Ideal S128x64 .f32) (r : Fin 128) (c : Fin 64) :
    accB a w x (ix2 r c) = (a (ix2 r c) + ∑ j : Fin 128, w (ix2 r j) * x (ix2 j c) : EReal) := by
  pointwise

/-- One more slab's count at a point. -/
theorem cntB_at (n : FVec Ideal S128x1 .f32) (k : Sq) (r : Fin 128) :
    cntB n k (ix2 r 0) = (n (ix2 r 0) + ∑ j : Fin 128, k (ix2 r j) : EReal) := by
  pointwise

/-- The first row of a slab's values. -/
theorem slab_off : ∀ (i : grid0.Coords) (s : Fin 5), k0_off1 i (BitVec.ofNat 32 (128 * s.val)) = ![128 * (Spec.band (i 0).val + s.val), 0] := by decide +kernel

/-- A channel of an array of the grid's values, by the point's number. -/
def channel (x : Vec Ideal S1024x64 .f32) (c : Fin 64) (m : ℕ) : EReal := if h : m < 1024 then x (ix2 ⟨m, h⟩ c) else 0

/-- A slab's value at a point and a channel. -/
theorem slabX_at (x : Vec Ideal S1024x64 .f32) (i : grid0.Coords) (s : Fin 5) (j : Fin 128) (c : Fin 64) :
    (slabX x i s (ix2 j c) : EReal) = channel x c (128 * (Spec.band (i 0).val + s.val) + j.val) := by
  have hb : Spec.band (i 0).val ≤ 3 := min_le_left _ _
  rw [channel, dif_pos (by omega)]
  refine congrArg x ?_
  funext a
  apply Fin.ext
  refine (Rect.idx_unit_val ..).trans ((congrArg (fun f => f a + (ix2 j c a : ℕ)) (slab_off i s)).trans ?_)
  match a with
  | 0 => rfl
  | 1 => exact Nat.zero_add _

/-- The body's output at a point and a channel is the weighted mean over the grid. -/
theorem outB_at (i : grid0.Coords) (x : Vec Ideal S1024x64 .f32) (h : Vec Ideal S128x1 .f32) (w1 : Vec Ideal S32x4 .f32) (b1 w2 : Vec Ideal S32 .f32) (b2 : Vec Ideal S1 .f32)
    (v : Vec Ideal S32 .f32) (r : Fin 128) (c : Fin 64) (hh : (0 : EReal) ≤ h (ix2 r 0)) (n : ℕ) (hn : n = 128 * (i 0).val + r.val) :
    outB i x h w1 b1 w2 b2 v (ix2 r c)
      = Spec.mean n (fun m => Spec.phi (fun k l => w1 (ix2 k l)) (fun k => b1 (ix1 k)) (fun k => w2 (ix1 k)) (b2 (ix1 0)) n m
          * Spec.ramps (rd1 v) (Spec.clip (Ideal.div (Spec.dist n m) (h (ix2 r 0) + ((8796093 / 8796093022208 : ℝ) : EReal)))) * Spec.mask n m) (channel x c) := by
  have h8 : (i 0).val < 8 := (i 0).isLt
  rw [Spec.mean_band n (i 0).val h8 (by omega)]
  have e : outB i x h w1 b1 w2 b2 v (ix2 r c)
      = Ideal.div (accB (accB (accB (accB (accB (broadcast S128x64 (Scalar.ofBits .f32 0x00000000#32))
          (weightB (rowsI i) (colsI (slabW i (0 : Fin 5))) h (rd2 w1) (rd1 b1) (rd1 w2) (rd0 b2) (rd1 v)) (slabX x i 0))
          (weightB (rowsI i) (colsI (slabW i (1 : Fin 5))) h (rd2 w1) (rd1 b1) (rd1 w2) (rd0 b2) (rd1 v)) (slabX x i 1))
          (weightB (rowsI i) (colsI (slabW i (2 : Fin 5))) h (rd2 w1) (rd1 b1) (rd1 w2) (rd0 b2) (rd1 v)) (slabX x i 2))
          (weightB (rowsI i) (colsI (slabW i (3 : Fin 5))) h (rd2 w1) (rd1 b1) (rd1 w2) (rd0 b2) (rd1 v)) (slabX x i 3))
          (weightB (rowsI i) (colsI (slabW i (4 : Fin 5))) h (rd2 w1) (rd1 b1) (rd1 w2) (rd0 b2) (rd1 v)) (slabX x i 4) (ix2 r c))
        (max (cntB (cntB (cntB (cntB (cntB (broadcast S128x1 (Scalar.ofBits .f32 0x00000000#32)) (maskB (distB (rowsI i) (colsI (slabW i (0 : Fin 5))))))
          (maskB (distB (rowsI i) (colsI (slabW i (1 : Fin 5)))))) (maskB (distB (rowsI i) (colsI (slabW i (2 : Fin 5))))))
          (maskB (distB (rowsI i) (colsI (slabW i (3 : Fin 5)))))) (maskB (distB (rowsI i) (colsI (slabW i (4 : Fin 5))))) (ix2 r 0)) 1 : EReal) := by
    unfold outB
    rw [← Ideal.ofBits_one_f32]
    rfl
  have z64 : (broadcast S128x64 (Scalar.ofBits (F := Ideal) .f32 0x00000000#32) (ix2 r c) : EReal) = 0 := Ideal.ofBits_zero_f32
  have z1 : (broadcast S128x1 (Scalar.ofBits (F := Ideal) .f32 0x00000000#32) (ix2 r 0) : EReal) = 0 := Ideal.ofBits_zero_f32
  have hw := fun (s : Fin 5) (j : Fin 128) => weightB_at i s h w1 b1 w2 b2 v r j hh n _ hn rfl
  have hs := fun (s : Fin 5) (j : Fin 128) => slab_mask i s r j
  have h5 : ∀ f : ℕ → EReal, ∑ s ∈ Finset.range 5, f s = f 0 + f 1 + f 2 + f 3 + f 4 := fun f => by
    simp only [Finset.sum_range_succ, Finset.sum_range_zero, zero_add]
  rw [e, h5, h5]
  simp only [accB_at, cntB_at, z64, z1, hw, slabX_at, hs, ← hn, zero_add]
  simp only [Finset.sum_range, Fin.coe_ofNat_eq_mod, Nat.reduceMod, Nat.zero_mod]
  refine congrArg₂ Ideal.div ?_ rfl
  refine congrArg₂ (· + ·) (congrArg₂ (· + ·) (congrArg₂ (· + ·) (congrArg₂ (· + ·) ?_ ?_) ?_) ?_) ?_ <;>
    exact Finset.sum_congr rfl fun j _ => congrArg _ (slabX_at x i _ j c)

end Cert.Block
end
-- ==== Proof.Equation.lean ====
/- The equation: the kernel's block entry and the reference's result entry are the same weighted mean, where the
   precondition holds. -/
module

public import proofs.«01_k».proof.Proof.Precondition
public import proofs.«01_k».proof.Proof.KernelAt

@[expose] public section

set_option maxRecDepth 16384

noncomputable section

namespace Cert.Ref

open Idealize.ShloMosaic Cert.ReferenceIdeal Cert.ReferenceIdeal.Gen Cert.ReferenceIdeal.Value

/-- A table read by the kernel is the table. -/
theorem rd1_table (S : FVec Ideal S32 .f32) : Cert.Block.rd1 S = Spec.table fun k => S (ix1 k) := by
  funext k
  by_cases h : k < 32
  · rw [Spec.table, dif_pos h]; exact Cert.Block.rd1_eq S ⟨k, h⟩
  · rw [Spec.table, dif_neg h, Cert.Block.rd1, dif_neg h]; exact Ideal.ofBits_zero_f32

/-- Under the precondition the kernel's mean at a point and a channel is the reference's result. -/
theorem mean_eq (x : FVec Ideal S1x1024x64 .f32) (W1 : FVec Ideal S32x4 .f32) (b1 : FVec Ideal S32 .f32) (W2 : FVec Ideal S1x32 .f32) (b2 : FVec Ideal S1 .f32)
    (Wh1 : FVec Ideal S32x2 .f32) (bh1 : FVec Ideal S32 .f32) (Wh2 : FVec Ideal S1x32 .f32) (bh2 : FVec Ideal S1 .f32) (S : FVec Ideal S32 .f32)
    (hp : Cert.Pre_clear_of_knots.fn (F := Ideal) x W1 b1 W2 b2 Wh1 bh1 Wh2 bh2 S = fun _ => 1#1) (n : Fin 1024) (c : Fin 64) (z : ℕ → EReal) (hz : ∀ j : Fin 1024, z j = x (ix3 0 j c)) :
    Spec.mean n (fun j => Spec.phi (fun k l => W1 (ix2 k l)) (fun k => b1 (ix1 k)) (fun k => W2 (ix2 0 k)) (b2 (ix1 0)) n j
        * Spec.ramps (Cert.Block.rd1 S) (Spec.clip (Ideal.div (Spec.dist n j)
          (Spec.softplus (Spec.radiusNet (fun k l => Wh1 (ix2 k l)) (fun k => bh1 (ix1 k)) (fun k => Wh2 (ix2 0 k)) (bh2 (ix1 0)) n) + ((8796093 / 8796093022208 : ℝ) : EReal))))
        * Spec.mask n j) z
      = resultA x W1 b1 W2 b2 Wh1 bh1 Wh2 bh2 S (ix2 n c) := by
  rw [pre_eq] at hp
  have hb := fun j : Fin 1024 => and_bits _ _ (congrFun hp (ix2 n j))
  refine (resultA_at x W1 b1 W2 b2 Wh1 bh1 Wh2 bh2 S n c _ z hz fun j => ?_).symm
  have hr := ratioA_at (netA Wh1 bh1 Wh2 bh2) n j
  rw [netA_at] at hr
  obtain ⟨y, hy, h0, h1⟩ := Spec.clip_real (Ideal.div (Spec.dist n j)
    (Spec.softplus (Spec.radiusNet (fun k l => Wh1 (ix2 k l)) (fun k => bh1 (ix1 k)) (fun k => Wh2 (ix2 0 k)) (bh2 (ix1 0)) n) + ((8796093 / 8796093022208 : ℝ) : EReal)))
  rw [hy] at hr
  rw [pairNetA_at, maskA_at, splineA_at S _ n j y hr h0 h1]
  show _ * Spec.ramps _ (Spec.clip _) * _ = _
  rw [hy, rd1_table]
  refine Spec.weight_eq _ _ _ _ _ fun hd => Spec.ramps_eq _ (fun k hk => ?_) h0 h1 (clear_pair _ n j (hb j).2 y hr h0 h1 hd)
  obtain ⟨v, hv⟩ := finite_entry S _ (hb j).1 ⟨k, hk⟩
  exact ⟨v, by rw [Spec.table, dif_pos hk]; exact hv⟩

end Cert.Ref

end
-- ==== Proof.KernelHost.lean ====
/- What the host code before the kernel's call makes: the radii of the grid's points. -/
module

public import proofs.«01_k».proof.Proof.Gen.KernelIdeal.Value
public import proofs.«01_k».proof.Proof.Consts
public import proofs.«01_k».proof.Proof.Spec
public import Idealize.ShloMosaic.Lib.Pipeline.ValueKit
public import Idealize.ShloMosaic.Lib.Pipeline.ValueKit.Point
public import Idealize.ShloMosaic.Lib.Pointwise
public import Idealize.ShloMosaic.Lib.Claim

@[expose] public section

set_option maxRecDepth 16384

noncomputable section

namespace Cert.Entry

open Idealize.ShloMosaic Cert.KernelIdeal Cert.KernelIdeal.Gen Cert.KernelIdeal.Value Idealize.ShloMosaic.TcCoe Idealize.SL.Sem

/-- One word at every point. -/
abbrev same {s : Shape} (h : S_.BroadcastsInDim s (![] : Fin 0 → Fin s.rank)) (w : BitVec 32) : FVec Ideal s .f32 :=
  broadcastInDim s ![] h (constant S_ .f32 w)

/-- The reciprocal of 31, as the quotient of two constants. -/
def stepK : FVec Ideal S_ .f32 := Host.divf (constant S_ .f32 0x3F800000#32) (constant S_ .f32 0x41F80000#32)

/-- The first coordinates of the grid's points. -/
def firstK : FVec Ideal S1024 .f32 :=
  mulf (sitofp .f32 (Host.shrsi (iotaInDim S1024 32 0) (broadcastInDim S1024 ![] bcast_S_S1024 (constantI S_ 32 5#32)))) (broadcastInDim S1024 ![] bcast_S_S1024 stepK)

/-- The second coordinates of the grid's points. -/
def secondK : FVec Ideal S1024 .f32 :=
  mulf (sitofp .f32 (andi (iotaInDim S1024 32 0) (broadcastInDim S1024 ![] bcast_S_S1024 (constantI S_ 32 31#32)))) (broadcastInDim S1024 ![] bcast_S_S1024 stepK)

/-- The coordinates, in two columns. -/
def coordsK : FVec Ideal S1024x2 .f32 :=
  concatenate S1024x2 1 [⟨S1024x1, broadcastInDim S1024x1 ![0] bcast_S1024_S1024x1_0 firstK⟩, ⟨S1024x1, broadcastInDim S1024x1 ![0] bcast_S1024_S1024x1_0 secondK⟩]
    concatenates_S1024x1_S1024x1_S1024x2_d1

/-- The radius net at the grid's points, before its softplus. -/
def netK (Wh1 : FVec Ideal S32x2 .f32) (bh1 : FVec Ideal S32 .f32) (Wh2 : FVec Ideal S1x32 .f32) (bh2 : FVec Ideal S1 .f32) : FVec Ideal S1024x1 .f32 :=
  addf (Host.dotGeneral dot_S1024x32_S32x1_S1024x1_1_0_0_1_n_n none
      (truncf .bf16 (maximumf (addf (Host.dotGeneral dot_S1024x2_S2x32_S1024x32_1_0_0_1_n_n none (truncf .bf16 coordsK bitsLt_bf16_f32)
            (truncf .bf16 (transpose S2x32 [1, 0] Wh1 transposes_S32x2_S2x32_1_0) bitsLt_bf16_f32))
          (broadcastInDim S1024x32 ![0, 1] bcast_S1x32_S1024x32_0_1 (broadcastInDim S1x32 ![1] bcast_S32_S1x32_1 bh1)))
        (same bcast_S_S1024x32 0x00000000#32)) bitsLt_bf16_f32)
      (truncf .bf16 (transpose S32x1 [1, 0] Wh2 transposes_S1x32_S32x1_1_0) bitsLt_bf16_f32))
    (broadcastInDim S1024x1 ![0, 1] bcast_S1x1_S1024x1_0_1 (broadcastInDim S1x1 ![1] bcast_S1_S1x1_1 bh2))

/-- The softplus of an array. -/
def softplusK (u : FVec Ideal S1024x1 .f32) : FVec Ideal S1024x1 .f32 :=
  addf (maximumf u (same bcast_S_S1024x1 0x00000000#32)) (Host.log1p (Host.exp (Host.negf (Host.absf u))))

variable (m : (ℓ : Loc nD τ sig) → Buf (Elt Ideal) ℓ) (c : Dev nD)

/-- The radii at the call are the softplus of the radius net. -/
theorem radii_entry : V m c main_v38 = softplusK (netK (m ((c.tc : Thread nD τ).loc main_arg5)) (m ((c.tc : Thread nD τ).loc main_arg6)) (m ((c.tc : Thread nD τ).loc main_arg7)) (m ((c.tc : Thread nD τ).loc main_arg8))) := by
  entry_read
  rfl

/-- The grid's data at the call are the first argument, reshaped. -/
theorem data_entry : V m c main_v0 = shapeCast S1024x64 (m ((c.tc : Thread nD τ).loc main_arg0)) shapeCasts_S1x1024x64_S1024x64 := by
  entry_read
  rfl

/-- The pair net's second table at the call is the fourth argument, reshaped. -/
theorem table_entry : V m c main_v39 = shapeCast S32 (m ((c.tc : Thread nD τ).loc main_arg3)) shapeCasts_S1x32_S32 := by
  entry_read
  rfl

/-- A grid index's row. -/
theorem host_row : ∀ n : Fin 1024, (IntOp.shrsi .host (BitVec.ofNat 32 n) 5#32).toInt = ((n.val / 32 : ℕ) : ℤ) := by decide +kernel

/-- A grid index's column. -/
theorem host_col : ∀ n : Fin 1024, (IntOp.andi (BitVec.ofNat 32 n) 31#32).toInt = ((n.val % 32 : ℕ) : ℤ) := by decide +kernel

/-- An integer times the reciprocal of 31. -/
theorem over31 (z : ℤ) (k : ℕ) (h : z = (k : ℤ)) :
    (((z : ℝ) : EReal) * Ideal.div 1 (Ideal.ofBits .f32 0x41F80000#32) : EReal) = (((k : ℝ) / 31 : ℝ) : EReal) := by
  rw [h, Cert.Lit.w31, ← EReal.coe_one, Spec.div_real _ (by norm_num), ← EReal.coe_mul, mul_one_div, Int.cast_natCast]

/-- First coordinate of a grid point. -/
theorem coordsK_0 (n : Fin 1024) : coordsK (ix2 n 0) = (Spec.gx n : EReal) := by
  pointwise [coordsK, firstK, stepK]
  exact over31 _ _ (host_row n)

/-- Second coordinate of a grid point. -/
theorem coordsK_1 (n : Fin 1024) : coordsK (ix2 n 1) = (Spec.gy n : EReal) := by
  pointwise [coordsK, secondK, stepK]
  exact over31 _ _ (host_col n)

/-- The radius at a point is the softplus of the radius net. -/
theorem radii_at (Wh1 : FVec Ideal S32x2 .f32) (bh1 : FVec Ideal S32 .f32) (Wh2 : FVec Ideal S1x32 .f32) (bh2 : FVec Ideal S1 .f32) (n : Fin 1024) :
    softplusK (netK Wh1 bh1 Wh2 bh2) (ix2 n 0)
      = Spec.softplus (Spec.radiusNet (fun k l => Wh1 (ix2 k l)) (fun k => bh1 (ix1 k)) (fun k => Wh2 (ix2 0 k)) (bh2 (ix1 0)) n) := by
  have hn : netK Wh1 bh1 Wh2 bh2 (ix2 n 0) = Spec.radiusNet (fun k l => Wh1 (ix2 k l)) (fun k => bh1 (ix1 k)) (fun k => Wh2 (ix2 0 k)) (bh2 (ix1 0)) n := by
    pointwise [netK]
    simp only [Fin.sum_univ_two, coordsK_0, coordsK_1]
    rfl
  rw [← hn]
  pointwise [softplusK]
  rfl

end Cert.Entry

end
-- ==== Proof.KernelFinal.lean ====
/- The kernel's array after the run, entry by entry, and its run. -/
module

public import proofs.«01_k».proof.Proof.Equation
public import proofs.«01_k».proof.Proof.KernelHost

@[expose] public section

set_option maxRecDepth 16384

noncomputable section

namespace Cert.Entry

open Idealize.ShloMosaic Cert.KernelIdeal Cert.KernelIdeal.Gen Cert.KernelIdeal.Value Idealize.ShloMosaic.TcCoe Idealize.SL.Sem

variable (m : (ℓ : Loc nD τ sig) → Buf (Elt Ideal) ℓ) (c : Dev nD)

/-- Where the windows' blocks lie. -/
theorem places : ∀ t : Fin grid0.N, win0_0.index t 0 = 0 ∧ win0_0.index t 1 = 0 ∧ win0_1.index t 0 = t.val ∧ win0_1.index t 1 = 0
    ∧ win0_7.index t 0 = t.val ∧ win0_7.index t 1 = 0 ∧ (grid0.coords t 0).val = t.val := by decide +kernel

/-- The tables' windows stay at their first block. -/
theorem stays : ∀ t : Fin grid0.N, win0_2.index t 0 = 0 ∧ win0_2.index t 1 = 0 ∧ win0_3.index t 0 = 0 ∧ win0_4.index t 0 = 0
    ∧ win0_5.index t 0 = 0 ∧ win0_6.index t 0 = 0 := by decide +kernel

/-- The data's block is the whole array. -/
theorem data_block (t : Fin cfg0.N) : iblk m c 0 t = V m c main_v0 := by
  funext y
  blk_ext [iblk, places t]

/-- A radius in its block. -/
theorem radii_block (t : Fin cfg0.N) (r : Fin 128) (n : Fin 1024) (hn : n.val = 128 * t.val + r.val) :
    iblk m c 1 t (ix2 r 0) = V m c main_v38 (ix2 n 0) := by
  blk_ext [iblk, places t]

/-- The pair net's first table is staged whole. -/
theorem w1_block (t : Fin cfg0.N) : iblk m c 2 t = m ((c.tc : Thread nD τ).loc main_arg1) := by
  funext y
  blk_ext [iblk, V, stays t]

/-- The pair net's first offsets are staged whole. -/
theorem b1_block (t : Fin cfg0.N) : iblk m c 3 t = m ((c.tc : Thread nD τ).loc main_arg2) := by
  funext y
  blk_ext [iblk, V, stays t]

/-- The pair net's second table is staged whole. -/
theorem w2_block (t : Fin cfg0.N) : iblk m c 4 t = V m c main_v39 := by
  funext y
  blk_ext [iblk, stays t]

/-- The pair net's last offset is staged whole. -/
theorem b2_block (t : Fin cfg0.N) : iblk m c 5 t = m ((c.tc : Thread nD τ).loc main_arg4) := by
  funext y
  blk_ext [iblk, V, stays t]

/-- The spline's table is staged whole. -/
theorem s_block (t : Fin cfg0.N) : iblk m c 6 t = m ((c.tc : Thread nD τ).loc main_arg9) := by
  funext y
  blk_ext [iblk, V, stays t]

/-- A block computed from staged arrays, at a row and a channel, is the reference's result there, under the precondition. -/
theorem block_entry (x : FVec Ideal S1x1024x64 .f32) (W1 : FVec Ideal S32x4 .f32) (b1 : FVec Ideal S32 .f32) (W2 : FVec Ideal S1x32 .f32) (b2 : FVec Ideal S1 .f32)
    (Wh1 : FVec Ideal S32x2 .f32) (bh1 : FVec Ideal S32 .f32) (Wh2 : FVec Ideal S1x32 .f32) (bh2 : FVec Ideal S1 .f32) (S : FVec Ideal S32 .f32)
    (hp : Cert.Pre_clear_of_knots.fn (F := Ideal) x W1 b1 W2 b2 Wh1 bh1 Wh2 bh2 S = fun _ => 1#1) (i : grid0.Coords) (h : Vec Ideal S128x1 .f32) (r : Fin 128) (q : Fin 64)
    (n : Fin 1024) (hn : n.val = 128 * (i 0).val + r.val)
    (hr : h (ix2 r 0) = Spec.softplus (Spec.radiusNet (fun k l => Wh1 (ix2 k l)) (fun k => bh1 (ix1 k)) (fun k => Wh2 (ix2 0 k)) (bh2 (ix1 0)) n)) :
    Cert.Block.outB i (shapeCast S1024x64 x shapeCasts_S1x1024x64_S1024x64) h W1 b1 (shapeCast S32 W2 shapeCasts_S1x32_S32) b2 S (ix2 r q)
      = Cert.Ref.resultA x W1 b1 W2 b2 Wh1 bh1 Wh2 bh2 S (ix2 n q) := by
  refine (Cert.Block.outB_at i _ h W1 b1 _ b2 S r q (hr ▸ Spec.softplus_nonneg _) n.val hn).trans ?_
  have hw : (fun k => shapeCast S32 W2 shapeCasts_S1x32_S32 (ix1 k)) = fun k => W2 (ix2 0 k) := by
    funext k
    pointwise
  rw [hr, hw]
  refine Cert.Ref.mean_eq x W1 b1 W2 b2 Wh1 bh1 Wh2 bh2 S hp n q _ fun j => ?_
  rw [Cert.Block.channel, dif_pos j.isLt]
  pointwise

/-- A radius staged in its block is the softplus of the second net at its grid point. -/
theorem radii_staged (t : Fin cfg0.N) (r : Fin 128) (n : Fin 1024) (hn : n.val = 128 * t.val + r.val) :
    iblk m c 1 t (ix2 r 0) = Spec.softplus (Spec.radiusNet (fun k l => m ((c.tc : Thread nD τ).loc main_arg5) (ix2 k l)) (fun k => m ((c.tc : Thread nD τ).loc main_arg6) (ix1 k))
      (fun k => m ((c.tc : Thread nD τ).loc main_arg7) (ix2 0 k)) (m ((c.tc : Thread nD τ).loc main_arg8) (ix1 0)) n) :=
  (radii_block m c t r n hn).trans ((congrFun (radii_entry m c) _).trans (radii_at _ _ _ _ n))

/-- What a grid step leaves, at a row and a channel of its block, is the reference's result there, under the precondition. -/
theorem step_entry (hp : Cert.Pre_clear_of_knots.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1)
    (t : Fin cfg0.N) (r : Fin 128) (q : Fin 64) (n : Fin 1024) (hn : n.val = 128 * t.val + r.val) :
    outsAt0 m c t (ix2 r q) = Cert.Ref.resultA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 n q) :=
  (Cert.Block.outs_of m c t (ix2 r q) _ _ _ _ _ _ _ ((data_block m c t).trans (data_entry m c)) rfl (w1_block m c t) (b1_block m c t)
    ((w2_block m c t).trans (table_entry m c)) (b2_block m c t) (s_block m c t)).trans
  (block_entry _ _ _ _ _ _ _ _ _ _ hp (grid0.coords t) (iblk m c 1 t) r q n (by rw [(places t).2.2.2.2.2.2]; exact hn) (radii_staged m c t r n hn))

/-- Under the precondition the kernel's array after its steps is the reference's result of the same arguments. -/
theorem final (hp : Cert.Pre_clear_of_knots.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1) :
    (dats m 0 c).arrAt 7 cfg0.N = Cert.Ref.resultA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 7 _ (by decide +kernel) fun t _ y => ?_
  blk_simp
  rw [after0_7]
  idx_vars y
  have ht : t.val < 8 := t.isLt
  obtain ⟨n, hn⟩ : ∃ n : Fin 1024, n.val = 128 * t.val + y0.val := ⟨⟨128 * t.val + y0.val, by have := y0.isLt; omega⟩, rfl⟩
  have he : ((View.whole main_v40).slice (win0_7.rect t)).emb (ix2 y0 y1) = ix2 n y1 := by
    blk_ext [places t]
  rw [he]
  exact step_entry m c hp t y0 y1 n hn

end Cert.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefRun
public import proofs.«01_k».proof.Proof.KernelFinal
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and, having no semaphores, with every counter at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.Ref.run_result m ρ)

/-- Every named constant is the number its name stands for. -/
theorem preserves : Cert.preserves_Kernel_KernelIdeal := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact IdealRules.named_const.statement Cert.KernelIdeal.κ _ .f32 _ _ rfl

/-- From memories that agree on the arguments, where the precondition holds, the idealized kernel and the reference end
    with the same array. -/
theorem algebraic : Cert.algebraic_KernelIdeal_ReferenceIdeal_pre_clear_of_knots := by
  intro m ρ m' ρ' hp ha
  refine ⟨_, Cert.KernelIdeal.Value.run_blocks (F := Ideal) m ρ, ?_⟩
  refine (θ_run Cert.ReferenceIdeal.defs _ _).mono (fun r h c => ⟨(h c).1.trans ?_, (h c).2⟩) (Cert.Ref.run_result m' ρ')
  obtain ⟨a0, a1, a2, a3, a4, a5, a6, a7, a8, a9⟩ := ha c
  rw [a0, a1, a2, a3, a4, a5, a6, a7, a8, a9]
  exact (Cert.Entry.final m c (hp c)).symm

/-- All the claims. -/
theorem claim : Cert.Claim :=
  ⟨Cert.Kernel.Gen.facts, Cert.KernelIdeal.Gen.facts, Cert.ReferenceIdeal.Gen.facts, Cert.Ref.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    preserves, algebraic⟩

end Cert.Proof

end
